-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S_ : Shape := ⟨0, ![]⟩

class Facts : Prop where
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S1024x256 .bf16) (main_arg1 : FVec F S256x128 .bf16) (main_arg2 : IVec S1024x2 32) (main_arg3 : FVec F S4x256x512 .bf16) : IVec S_ 1 :=
  let main_v0 : FVec F S1024x256 .f32 := (extf .f32 · bitsLt_bf16_f32) main_arg0
  let main_v1 : FVec F S1024x256 .f32 := Host.absf main_v0
  let main_cst : FVec F S_ .f32 := constant S_ .f32 0x7F800000#32
  let main_v2 : FVec F S1024x256 .f32 := broadcastInDim S1024x256 ![] bcast_S_S1024x256 main_cst
  let main_v3 : IVec S1024x256 1 := cmpf .olt main_v1 main_v2
  let main_c : IVec S_ 1 := constantI S_ 1 1#1
  let main_v4 : IVec S_ 1 := (fun x v => Host.reduce IntOp.andi x v reducesTo_S1024x256_S_d0_1 h_S_) main_v3 main_c
  let main_v5 : FVec F S256x128 .f32 := (extf .f32 · bitsLt_bf16_f32) main_arg1
  let main_v6 : FVec F S256x128 .f32 := Host.absf main_v5
  let main_cst_0 : FVec F S_ .f32 := constant S_ .f32 0x7F800000#32
  let main_v7 : FVec F S256x128 .f32 := broadcastInDim S256x128 ![] bcast_S_S256x128 main_cst_0
  let main_v8 : IVec S256x128 1 := cmpf .olt main_v6 main_v7
  let main_c_1 : IVec S_ 1 := constantI S_ 1 1#1
  let main_v9 : IVec S_ 1 := (fun x v => Host.reduce IntOp.andi x v reducesTo_S256x128_S_d0_1 h_S_) main_v8 main_c_1
  let main_v10 : IVec S_ 1 := andi main_v4 main_v9
  let main_c_2 : IVec S_ 32 := constantI S_ 32 0#32
  let main_v11 : IVec S1024x2 32 := broadcastInDim S1024x2 ![] bcast_S_S1024x2 main_c_2
  let main_v12 : IVec S1024x2 1 := cmpi .sge main_arg2 main_v11
  let main_c_3 : IVec S_ 32 := constantI S_ 32 128#32
  let main_v13 : IVec S1024x2 32 := broadcastInDim S1024x2 ![] bcast_S_S1024x2 main_c_3
  let main_v14 : IVec S1024x2 1 := cmpi .slt main_arg2 main_v13
  let main_v15 : IVec S1024x2 1 := andi main_v12 main_v14
  let main_c_4 : IVec S_ 1 := constantI S_ 1 1#1
  let main_v16 : IVec S_ 1 := (fun x v => Host.reduce IntOp.andi x v reducesTo_S1024x2_S_d0_1 h_S_) main_v15 main_c_4
  fn_part1 (F := F) main_v10 main_v16
-- ==== Pre_finite_and_in_range_ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S_ : Shape := ⟨0, ![]⟩

class Facts : Prop where
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S1024x256 .bf16) (main_arg1 : FVec F S256x128 .bf16) (main_arg2 : IVec S1024x2 32) (main_arg3 : FVec F S128x256x512 .bf16) : IVec S_ 1 :=
  let main_v0 : FVec F S1024x256 .f32 := (extf .f32 · bitsLt_bf16_f32) main_arg0
  let main_v1 : FVec F S1024x256 .f32 := Host.absf main_v0
  let main_cst : FVec F S_ .f32 := constant S_ .f32 0x7F800000#32
  let main_v2 : FVec F S1024x256 .f32 := broadcastInDim S1024x256 ![] bcast_S_S1024x256 main_cst
  let main_v3 : IVec S1024x256 1 := cmpf .olt main_v1 main_v2
  let main_c : IVec S_ 1 := constantI S_ 1 1#1
  let main_v4 : IVec S_ 1 := (fun x v => Host.reduce IntOp.andi x v reducesTo_S1024x256_S_d0_1 h_S_) main_v3 main_c
  let main_v5 : FVec F S256x128 .f32 := (extf .f32 · bitsLt_bf16_f32) main_arg1
  let main_v6 : FVec F S256x128 .f32 := Host.absf main_v5
  let main_cst_0 : FVec F S_ .f32 := constant S_ .f32 0x7F800000#32
  let main_v7 : FVec F S256x128 .f32 := broadcastInDim S256x128 ![] bcast_S_S256x128 main_cst_0
  let main_v8 : IVec S256x128 1 := cmpf .olt main_v6 main_v7
  let main_c_1 : IVec S_ 1 := constantI S_ 1 1#1
  let main_v9 : IVec S_ 1 := (fun x v => Host.reduce IntOp.andi x v reducesTo_S256x128_S_d0_1 h_S_) main_v8 main_c_1
  let main_v10 : IVec S_ 1 := andi main_v4 main_v9
  let main_c_2 : IVec S_ 32 := constantI S_ 32 0#32
  let main_v11 : IVec S1024x2 32 := broadcastInDim S1024x2 ![] bcast_S_S1024x2 main_c_2
  let main_v12 : IVec S1024x2 1 := cmpi .sge main_arg2 main_v11
  let main_c_3 : IVec S_ 32 := constantI S_ 32 128#32
  let main_v13 : IVec S1024x2 32 := broadcastInDim S1024x2 ![] bcast_S_S1024x2 main_c_3
  let main_v14 : IVec S1024x2 1 := cmpi .slt main_arg2 main_v13
  let main_v15 : IVec S1024x2 1 := andi main_v12 main_v14
  let main_c_4 : IVec S_ 1 := constantI S_ 1 1#1
  let main_v16 : IVec S_ 1 := (fun x v => Host.reduce IntOp.andi x v reducesTo_S1024x2_S_d0_1 h_S_) main_v15 main_c_4
  fn_part1 (F := F) main_v10 main_v16
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S1024x512 : Shape := ⟨2, ![1024, 512]⟩
abbrev S1024x128 : Shape := ⟨2, ![1024, 128]⟩
abbrev S512x512 : Shape := ⟨2, ![512, 512]⟩
abbrev S10 : Shape := ⟨1, ![10]⟩
abbrev S1024 : Shape := ⟨1, ![1024]⟩
abbrev S1024x1 : Shape := ⟨2, ![1024, 1]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S_ : Shape := ⟨0, ![]⟩
abbrev S1 : Shape := ⟨1, ![1]⟩
abbrev S128x512 : Shape := ⟨2, ![128, 512]⟩
abbrev S64x512 : Shape := ⟨2, ![64, 512]⟩
abbrev S32x512 : Shape := ⟨2, ![32, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x2, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S256x128, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .f32⟩
  | .local _ .vmem, ⟨5, _⟩ => ⟨S1024x512, .bf16⟩
  | .local _ .vmem, ⟨6, _⟩ => ⟨S1024x128, .f32⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_mult1 (d0 : Dev nD) : BitVec 32 :=
  let c1_i32_12 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let v39 : BitVec 32 := Scalar.subi c1_i32_12 v38
  let c512_i32 : BitVec 32 := 512#32
  let v40 : BitVec 32 := Scalar.muli v39 c512_i32
  v40
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  v42
def k0_off1 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let v39 : BitVec 32 := Scalar.subi c1_i32_12 v38
  let c512_i32 : BitVec 32 := 512#32
  let v40 : BitVec 32 := Scalar.muli v39 c512_i32
  let v41 : BitVec 32 := v40
  let v44 : Index := Scalar.indexCast v41
  let c0_14 : Index := 0#32
  ![v44.toNat, 0]
def k0_off2 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let v39 : BitVec 32 := Scalar.subi c1_i32_12 v38
  let c512_i32 : BitVec 32 := 512#32
  let v40 : BitVec 32 := Scalar.muli v39 c512_i32
  let v41 : BitVec 32 := v40
  let v47 : Index := Scalar.indexCast v41
  let c0_15 : Index := 0#32
  ![v47.toNat, 0]
def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_46 : BitVec 32 := 8#32
  let v120 : BitVec 32 := Scalar.xori v2 c8_i32_46
  let c1_i32_48 : BitVec 32 := 1#32
  let v121 : BitVec 32 := Scalar.muli v120 c1_i32_48
  let v122 : BitVec 32 := Scalar.addi c0_i32_49 v121
  v122.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v123 : BitVec 32 := Scalar.xori v2 c1_i32_50
  let c1_i32_52 : BitVec 32 := 1#32
  let v124 : BitVec 32 := Scalar.muli v123 c1_i32_52
  let v125 : BitVec 32 := Scalar.addi c0_i32_53 v124
  v125.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_54 : BitVec 32 := 2#32
  let v126 : BitVec 32 := Scalar.xori v2 c2_i32_54
  let c1_i32_56 : BitVec 32 := 1#32
  let v127 : BitVec 32 := Scalar.muli v126 c1_i32_56
  let v128 : BitVec 32 := Scalar.addi c0_i32_57 v127
  v128.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_58 : BitVec 32 := 4#32
  let v129 : BitVec 32 := Scalar.xori v2 c4_i32_58
  let c1_i32_60 : BitVec 32 := 1#32
  let v130 : BitVec 32 := Scalar.muli v129 c1_i32_60
  let v131 : BitVec 32 := Scalar.addi c0_i32_61 v130
  v131.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v132 : BitVec 32 := Scalar.xori v2 c16_i32
  let c1_i32_63 : BitVec 32 := 1#32
  let v133 : BitVec 32 := Scalar.muli v132 c1_i32_63
  let v134 : BitVec 32 := Scalar.addi c0_i32_64 v133
  v134.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_65 : BitVec 32 := 8#32
  let v135 : BitVec 32 := Scalar.xori v2 c8_i32_65
  let c1_i32_68 : BitVec 32 := 1#32
  let v136 : BitVec 32 := Scalar.muli v135 c1_i32_68
  let v137 : BitVec 32 := Scalar.addi c0_i32_69 v136
  v137.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let v143 : Index := Scalar.indexCast v43
  let c0_72 : Index := 0#32
  ![v143.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let v146 : Index := Scalar.indexCast v43
  let c0_73 : Index := 0#32
  ![v146.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let v215 : Index := Scalar.indexCast v43
  let c0_107 : Index := 0#32
  ![v215.toNat, 0]
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_126 : BitVec 32 := 1#32
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let v239 : BitVec 32 := Scalar.subi c1_i32_126 v238
  let c256_i32 : BitVec 32 := 256#32
  let v240 : BitVec 32 := Scalar.muli v239 c256_i32
  let v241 : BitVec 32 := Scalar.addi v43 v240
  v241
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  v244
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_126 : BitVec 32 := 1#32
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let v239 : BitVec 32 := Scalar.subi c1_i32_126 v238
  let c256_i32 : BitVec 32 := 256#32
  let v240 : BitVec 32 := Scalar.muli v239 c256_i32
  let v241 : BitVec 32 := Scalar.addi v43 v240
  let v242 : BitVec 32 := v241
  let c0_i32_134 : BitVec 32 := 0#32
  ![v242.toNat, 0]
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_123 : BitVec 32 := 1#32
  let v235 : BitVec 32 := Scalar.xori v2 c1_i32_123
  let c1_i32_130 : BitVec 32 := 1#32
  let v246 : BitVec 32 := Scalar.muli v235 c1_i32_130
  let v247 : BitVec 32 := Scalar.addi c0_i32_131 v246
  v247.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let v264 : Index := Scalar.indexCast v245
  let c0_148 : Index := 0#32
  ![v264.toNat, 0]
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c1_i32_154 : BitVec 32 := 1#32
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let v276 : BitVec 32 := Scalar.subi c1_i32_154 v275
  let c128_i32 : BitVec 32 := 128#32
  let v277 : BitVec 32 := Scalar.muli v276 c128_i32
  let v278 : BitVec 32 := Scalar.addi v245 v277
  v278
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  v281
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c1_i32_154 : BitVec 32 := 1#32
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let v276 : BitVec 32 := Scalar.subi c1_i32_154 v275
  let c128_i32 : BitVec 32 := 128#32
  let v277 : BitVec 32 := Scalar.muli v276 c128_i32
  let v278 : BitVec 32 := Scalar.addi v245 v277
  let v279 : BitVec 32 := v278
  let c0_i32_161 : BitVec 32 := 0#32
  ![v279.toNat, 0]
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_151 : BitVec 32 := 2#32
  let v272 : BitVec 32 := Scalar.xori v2 c2_i32_151
  let c1_i32_158 : BitVec 32 := 1#32
  let v283 : BitVec 32 := Scalar.muli v272 c1_i32_158
  let v284 : BitVec 32 := Scalar.addi c0_i32_159 v283
  v284.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let v301 : Index := Scalar.indexCast v282
  let c0_175 : Index := 0#32
  ![v301.toNat, 0]
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c1_i32_181 : BitVec 32 := 1#32
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let v313 : BitVec 32 := Scalar.subi c1_i32_181 v312
  let c64_i32 : BitVec 32 := 64#32
  let v314 : BitVec 32 := Scalar.muli v313 c64_i32
  let v315 : BitVec 32 := Scalar.addi v282 v314
  v315
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  v318
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c1_i32_181 : BitVec 32 := 1#32
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let v313 : BitVec 32 := Scalar.subi c1_i32_181 v312
  let c64_i32 : BitVec 32 := 64#32
  let v314 : BitVec 32 := Scalar.muli v313 c64_i32
  let v315 : BitVec 32 := Scalar.addi v282 v314
  let v316 : BitVec 32 := v315
  let c0_i32_188 : BitVec 32 := 0#32
  ![v316.toNat, 0]
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_178 : BitVec 32 := 4#32
  let v309 : BitVec 32 := Scalar.xori v2 c4_i32_178
  let c1_i32_185 : BitVec 32 := 1#32
  let v320 : BitVec 32 := Scalar.muli v309 c1_i32_185
  let v321 : BitVec 32 := Scalar.addi c0_i32_186 v320
  v321.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let v338 : Index := Scalar.indexCast v319
  let c0_202 : Index := 0#32
  ![v338.toNat, 0]
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c1_i32_208 : BitVec 32 := 1#32
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let v350 : BitVec 32 := Scalar.subi c1_i32_208 v349
  let c32_i32_209 : BitVec 32 := 32#32
  let v351 : BitVec 32 := Scalar.muli v350 c32_i32_209
  let v352 : BitVec 32 := Scalar.addi v319 v351
  v352
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  v355
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c1_i32_208 : BitVec 32 := 1#32
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let v350 : BitVec 32 := Scalar.subi c1_i32_208 v349
  let c32_i32_209 : BitVec 32 := 32#32
  let v351 : BitVec 32 := Scalar.muli v350 c32_i32_209
  let v352 : BitVec 32 := Scalar.addi v319 v351
  let v353 : BitVec 32 := v352
  let c0_i32_216 : BitVec 32 := 0#32
  ![v353.toNat, 0]
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_205 : BitVec 32 := 16#32
  let v346 : BitVec 32 := Scalar.xori v2 c16_i32_205
  let c1_i32_213 : BitVec 32 := 1#32
  let v357 : BitVec 32 := Scalar.muli v346 c1_i32_213
  let v358 : BitVec 32 := Scalar.addi c0_i32_214 v357
  v358.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v375 : Index := Scalar.indexCast v356
  let c0_230 : Index := 0#32
  ![v375.toNat, 0]
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  v390
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  v356
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c0_i32_245 : BitVec 32 := 0#32
  ![v392.toNat, 0]
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_233 : BitVec 32 := 16#32
  let v383 : BitVec 32 := Scalar.xori v2 c16_i32_233
  let c1_i32_241 : BitVec 32 := 1#32
  let v393 : BitVec 32 := Scalar.muli v383 c1_i32_241
  let v394 : BitVec 32 := Scalar.addi c0_i32_242 v393
  v394.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v412 : Index := Scalar.indexCast v391
  let c0_261 : Index := 0#32
  ![v412.toNat, 0]
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  v424
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  v416
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c0_i32_273 : BitVec 32 := 0#32
  ![v426.toNat, 0]
def k0_dev12 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_262 : BitVec 32 := 4#32
  let v417 : BitVec 32 := Scalar.xori v2 c4_i32_262
  let c1_i32_269 : BitVec 32 := 1#32
  let v427 : BitVec 32 := Scalar.muli v417 c1_i32_269
  let v428 : BitVec 32 := Scalar.addi c0_i32_270 v427
  v428.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v446 : Index := Scalar.indexCast v425
  let c0_288 : Index := 0#32
  ![v446.toNat, 0]
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  v458
def k0_mult16 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  v450
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c0_i32_299 : BitVec 32 := 0#32
  ![v460.toNat, 0]
def k0_dev13 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_289 : BitVec 32 := 2#32
  let v451 : BitVec 32 := Scalar.xori v2 c2_i32_289
  let c1_i32_296 : BitVec 32 := 1#32
  let v461 : BitVec 32 := Scalar.muli v451 c1_i32_296
  let v462 : BitVec 32 := Scalar.addi c0_i32_297 v461
  v462.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v480 : Index := Scalar.indexCast v459
  let c0_314 : Index := 0#32
  ![v480.toNat, 0]
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  v492
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  v484
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let v494 : BitVec 32 := v484
  let c0_i32_326 : BitVec 32 := 0#32
  ![v494.toNat, 0]
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_315 : BitVec 32 := 1#32
  let v485 : BitVec 32 := Scalar.xori v2 c1_i32_315
  let c1_i32_323 : BitVec 32 := 1#32
  let v495 : BitVec 32 := Scalar.muli v485 c1_i32_323
  let v496 : BitVec 32 := Scalar.addi c0_i32_324 v495
  v496.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  let v493 : BitVec 32 := v492
  let v514 : Index := Scalar.indexCast v493
  let c0_341 : Index := 0#32
  ![v514.toNat, 0]
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let v494 : BitVec 32 := v484
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  let v493 : BitVec 32 := v492
  let v518 : BitVec 32 := Scalar.minsi v494 v493
  let c1_i32_346 : BitVec 32 := 1#32
  let c2_i32_345 : BitVec 32 := 2#32
  let c8_i32_343 : BitVec 32 := 8#32
  let v520 : BitVec 32 := Scalar.andi v2 c8_i32_343
  let c0_i32_344 : BitVec 32 := 0#32
  let v521 : BitVec 1 := Scalar.cmpi .ne v520 c0_i32_344
  let v522 : BitVec 32 := Scalar.extui v521
  let v523 : BitVec 32 := Scalar.muli c2_i32_345 v522
  let v524 : BitVec 32 := Scalar.subi c1_i32_346 v523
  let c512_i32_347 : BitVec 32 := 512#32
  let v525 : BitVec 32 := Scalar.muli v524 c512_i32_347
  let v526 : BitVec 32 := Scalar.addi v518 v525
  v526
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let v494 : BitVec 32 := v484
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  let v493 : BitVec 32 := v492
  let v518 : BitVec 32 := Scalar.minsi v494 v493
  v518
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let v494 : BitVec 32 := v484
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  let v493 : BitVec 32 := v492
  let v518 : BitVec 32 := Scalar.minsi v494 v493
  let v528 : BitVec 32 := v518
  let c0_i32_352 : BitVec 32 := 0#32
  ![v528.toNat, 0]
def k0_dev15 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_342 : BitVec 32 := 8#32
  let v519 : BitVec 32 := Scalar.xori v2 c8_i32_342
  let c1_i32_349 : BitVec 32 := 1#32
  let v529 : BitVec 32 := Scalar.muli v519 c1_i32_349
  let v530 : BitVec 32 := Scalar.addi c0_i32_350 v529
  v530.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.andi v2 c8_i32
  let c0_i32 : BitVec 32 := 0#32
  let v37 : BitVec 1 := Scalar.cmpi .ne v36 c0_i32
  let v38 : BitVec 32 := Scalar.extui v37
  let c512_i32_13 : BitVec 32 := 512#32
  let v42 : BitVec 32 := Scalar.muli v38 c512_i32_13
  let v43 : BitVec 32 := v42
  let c1_i32_124 : BitVec 32 := 1#32
  let v236 : BitVec 32 := Scalar.andi v2 c1_i32_124
  let c0_i32_125 : BitVec 32 := 0#32
  let v237 : BitVec 1 := Scalar.cmpi .ne v236 c0_i32_125
  let v238 : BitVec 32 := Scalar.extui v237
  let c256_i32_127 : BitVec 32 := 256#32
  let v243 : BitVec 32 := Scalar.muli v238 c256_i32_127
  let v244 : BitVec 32 := Scalar.addi v43 v243
  let v245 : BitVec 32 := v244
  let c2_i32_152 : BitVec 32 := 2#32
  let v273 : BitVec 32 := Scalar.andi v2 c2_i32_152
  let c0_i32_153 : BitVec 32 := 0#32
  let v274 : BitVec 1 := Scalar.cmpi .ne v273 c0_i32_153
  let v275 : BitVec 32 := Scalar.extui v274
  let c128_i32_155 : BitVec 32 := 128#32
  let v280 : BitVec 32 := Scalar.muli v275 c128_i32_155
  let v281 : BitVec 32 := Scalar.addi v245 v280
  let v282 : BitVec 32 := v281
  let c4_i32_179 : BitVec 32 := 4#32
  let v310 : BitVec 32 := Scalar.andi v2 c4_i32_179
  let c0_i32_180 : BitVec 32 := 0#32
  let v311 : BitVec 1 := Scalar.cmpi .ne v310 c0_i32_180
  let v312 : BitVec 32 := Scalar.extui v311
  let c64_i32_182 : BitVec 32 := 64#32
  let v317 : BitVec 32 := Scalar.muli v312 c64_i32_182
  let v318 : BitVec 32 := Scalar.addi v282 v317
  let v319 : BitVec 32 := v318
  let c16_i32_206 : BitVec 32 := 16#32
  let v347 : BitVec 32 := Scalar.andi v2 c16_i32_206
  let c0_i32_207 : BitVec 32 := 0#32
  let v348 : BitVec 1 := Scalar.cmpi .ne v347 c0_i32_207
  let v349 : BitVec 32 := Scalar.extui v348
  let c32_i32_210 : BitVec 32 := 32#32
  let v354 : BitVec 32 := Scalar.muli v349 c32_i32_210
  let v355 : BitVec 32 := Scalar.addi v319 v354
  let v356 : BitVec 32 := v355
  let v392 : BitVec 32 := v356
  let c1_i32_237 : BitVec 32 := 1#32
  let c2_i32_236 : BitVec 32 := 2#32
  let c16_i32_234 : BitVec 32 := 16#32
  let v384 : BitVec 32 := Scalar.andi v2 c16_i32_234
  let c0_i32_235 : BitVec 32 := 0#32
  let v385 : BitVec 1 := Scalar.cmpi .ne v384 c0_i32_235
  let v386 : BitVec 32 := Scalar.extui v385
  let v387 : BitVec 32 := Scalar.muli c2_i32_236 v386
  let v388 : BitVec 32 := Scalar.subi c1_i32_237 v387
  let c32_i32_238 : BitVec 32 := 32#32
  let v389 : BitVec 32 := Scalar.muli v388 c32_i32_238
  let v390 : BitVec 32 := Scalar.addi v356 v389
  let v391 : BitVec 32 := v390
  let v416 : BitVec 32 := Scalar.minsi v392 v391
  let v426 : BitVec 32 := v416
  let c1_i32_266 : BitVec 32 := 1#32
  let c2_i32_265 : BitVec 32 := 2#32
  let c4_i32_263 : BitVec 32 := 4#32
  let v418 : BitVec 32 := Scalar.andi v2 c4_i32_263
  let c0_i32_264 : BitVec 32 := 0#32
  let v419 : BitVec 1 := Scalar.cmpi .ne v418 c0_i32_264
  let v420 : BitVec 32 := Scalar.extui v419
  let v421 : BitVec 32 := Scalar.muli c2_i32_265 v420
  let v422 : BitVec 32 := Scalar.subi c1_i32_266 v421
  let c64_i32_267 : BitVec 32 := 64#32
  let v423 : BitVec 32 := Scalar.muli v422 c64_i32_267
  let v424 : BitVec 32 := Scalar.addi v416 v423
  let v425 : BitVec 32 := v424
  let v450 : BitVec 32 := Scalar.minsi v426 v425
  let v460 : BitVec 32 := v450
  let c1_i32_293 : BitVec 32 := 1#32
  let c2_i32_292 : BitVec 32 := 2#32
  let c2_i32_290 : BitVec 32 := 2#32
  let v452 : BitVec 32 := Scalar.andi v2 c2_i32_290
  let c0_i32_291 : BitVec 32 := 0#32
  let v453 : BitVec 1 := Scalar.cmpi .ne v452 c0_i32_291
  let v454 : BitVec 32 := Scalar.extui v453
  let v455 : BitVec 32 := Scalar.muli c2_i32_292 v454
  let v456 : BitVec 32 := Scalar.subi c1_i32_293 v455
  let c128_i32_294 : BitVec 32 := 128#32
  let v457 : BitVec 32 := Scalar.muli v456 c128_i32_294
  let v458 : BitVec 32 := Scalar.addi v450 v457
  let v459 : BitVec 32 := v458
  let v484 : BitVec 32 := Scalar.minsi v460 v459
  let v494 : BitVec 32 := v484
  let c1_i32_319 : BitVec 32 := 1#32
  let c2_i32_318 : BitVec 32 := 2#32
  let c1_i32_316 : BitVec 32 := 1#32
  let v486 : BitVec 32 := Scalar.andi v2 c1_i32_316
  let c0_i32_317 : BitVec 32 := 0#32
  let v487 : BitVec 1 := Scalar.cmpi .ne v486 c0_i32_317
  let v488 : BitVec 32 := Scalar.extui v487
  let v489 : BitVec 32 := Scalar.muli c2_i32_318 v488
  let v490 : BitVec 32 := Scalar.subi c1_i32_319 v489
  let c256_i32_320 : BitVec 32 := 256#32
  let v491 : BitVec 32 := Scalar.muli v490 c256_i32_320
  let v492 : BitVec 32 := Scalar.addi v484 v491
  let v493 : BitVec 32 := v492
  let v518 : BitVec 32 := Scalar.minsi v494 v493
  let c1_i32_346 : BitVec 32 := 1#32
  let c2_i32_345 : BitVec 32 := 2#32
  let c8_i32_343 : BitVec 32 := 8#32
  let v520 : BitVec 32 := Scalar.andi v2 c8_i32_343
  let c0_i32_344 : BitVec 32 := 0#32
  let v521 : BitVec 1 := Scalar.cmpi .ne v520 c0_i32_344
  let v522 : BitVec 32 := Scalar.extui v521
  let v523 : BitVec 32 := Scalar.muli c2_i32_345 v522
  let v524 : BitVec 32 := Scalar.subi c1_i32_346 v523
  let c512_i32_347 : BitVec 32 := 512#32
  let v525 : BitVec 32 := Scalar.muli v524 c512_i32_347
  let v526 : BitVec 32 := Scalar.addi v518 v525
  let v527 : BitVec 32 := v526
  let v548 : Index := Scalar.indexCast v527
  let c0_367 : Index := 0#32
  ![v548.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 90
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x2, .i32⟩
  | .hbm, ⟨3, _⟩ => ⟨S128x256x512, .bf16⟩
  | .hbm, ⟨4, _⟩ => ⟨S1024x256, .f32⟩
  | .hbm, ⟨5, _⟩ => ⟨S256x128, .f32⟩
  | .hbm, ⟨6, _⟩ => ⟨S1024x128, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x128, .f32⟩
  | .hbm, ⟨17, _⟩ => ⟨S1024x128, .f32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x1, .i32⟩
  | .hbm, ⟨39, _⟩ => ⟨S1024x2, .i32⟩
  | .hbm, ⟨40, _⟩ => ⟨S1024, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024x1, .i32⟩
  | .hbm, ⟨57, _⟩ => ⟨S1024x2, .i32⟩
  | .hbm, ⟨58, _⟩ => ⟨S1024, .f32⟩
  | .hbm, ⟨59, _⟩ => ⟨S1024, .f32⟩
  | .hbm, ⟨60, _⟩ => ⟨S128x256x512, .f32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x256x512, .f32⟩
  | .hbm, ⟨70, _⟩ => ⟨S1024x512, .f32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S1024x1, .i32⟩
  | .hbm, ⟨79, _⟩ => ⟨S1024x256x512, .f32⟩
  | .hbm, ⟨80, _⟩ => ⟨S1024x512, .f32⟩
  | .hbm, ⟨81, _⟩ => ⟨S1024, .f32⟩
  | .hbm, ⟨82, _⟩ => ⟨S1024x1, .f32⟩
  | .hbm, ⟨83, _⟩ => ⟨S1024x512, .f32⟩
  | .hbm, ⟨84, _⟩ => ⟨S1024x512, .f32⟩
  | .hbm, ⟨85, _⟩ => ⟨S1024, .f32⟩
  | .hbm, ⟨86, _⟩ => ⟨S1024x1, .f32⟩
  | .hbm, ⟨87, _⟩ => ⟨S1024x512, .f32⟩
  | .hbm, ⟨88, _⟩ => ⟨S1024x512, .f32⟩
  | .hbm, ⟨89, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Arith.lean ====
/-
  The arithmetic of the exchange: which devices meet at each of the ten steps, which rows of the
  1024 × 512 accumulator a device keeps and which it sends, and that the offsets and device numbers
  the kernel computes are these.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic

/-! ## Bits and partners -/

/-- The mask of step `k`'s exchange: five steps down, the same five back up. -/
def mask : Fin 10 → ℕ := ![8, 1, 2, 4, 16, 16, 4, 2, 1, 8]

/-- The device `c` exchanges with at step `k`. -/
def prt (k : Fin 10) (c : Dev nD) : Dev nD := ⟨(c.val ^^^ mask k) % 32, Nat.mod_lt _ (by decide)⟩

theorem prt_prt (k : Fin 10) (c : Dev nD) : prt k (prt k c) = c := by revert k c; decide +kernel

theorem prt_ne (k : Fin 10) (c : Dev nD) : prt k c ≠ c := by revert k c; decide +kernel

/-- Step `9 - k` exchanges with the partner of step `k`. -/
theorem prt_rev (k : Fin 10) (c : Dev nD) : prt (Fin.rev k) c = prt k c := by revert k c; decide +kernel

/-- Exchanging with one partner, as a permutation of the devices. -/
def swp (k : Fin 10) : Dev nD ≃ Dev nD := ⟨prt k, prt k, prt_prt k, prt_prt k⟩

/-- Bit `b` (a power of two) of a device's number. -/
def bit (b : ℕ) (c : Dev nD) : ℕ := c.val / b % 2

/-- The first row of the block device `c` keeps after step `k` of the reduction. -/
def kp (k : Fin 5) (c : Dev nD) : ℕ :=
  (![512 * bit 8 c,
     512 * bit 8 c + 256 * bit 1 c,
     512 * bit 8 c + 256 * bit 1 c + 128 * bit 2 c,
     512 * bit 8 c + 256 * bit 1 c + 128 * bit 2 c + 64 * bit 4 c,
     512 * bit 8 c + 256 * bit 1 c + 128 * bit 2 c + 64 * bit 4 c + 32 * bit 16 c] : Fin 5 → ℕ) k

/-- Step `k` as one of the ten exchanges. -/
def rs (k : Fin 5) : Fin 10 := ⟨k.val, by omega⟩
/-- The `j`-th step of the gathering, as one of the ten exchanges. -/
def ag (j : Fin 5) : Fin 10 := ⟨5 + j.val, by omega⟩

/-- The first row of the block device `c` sends at step `k`: the block its partner keeps. -/
def sd (k : Fin 5) (c : Dev nD) : ℕ := kp k (prt (rs k) c)

/-- How many rows step `k` moves. -/
def len : Fin 10 → ℕ := ![512, 256, 128, 64, 32, 32, 64, 128, 256, 512]

/-- Where in the landing buffer step `k` lands. -/
def roff : Fin 10 → ℕ := ![0, 512, 768, 896, 960, 0, 32, 96, 224, 480]

theorem len_pos (k : Fin 10) : 0 < len k := by revert k; decide
theorem roff_len (k : Fin 10) : roff k + len k ≤ 1024 := by revert k; decide
theorem kp_len (k : Fin 5) (c : Dev nD) : kp k c + len (rs k) ≤ 1024 := by revert k c; decide +kernel
theorem sd_len (k : Fin 5) (c : Dev nD) : sd k c + len (rs k) ≤ 1024 := kp_len k _

/-- Where the block device `p` receives at step `k` belongs in its accumulator. -/
def bs (k : Fin 10) (p : Dev nD) : ℕ :=
  (![kp 0 p, kp 1 p, kp 2 p, kp 3 p, kp 4 p, sd 4 p, sd 3 p, sd 2 p, sd 1 p, sd 0 p] : Fin 10 → ℕ) k

/-- Where the block device `c` sends at step `k` lies in its accumulator. -/
def ss (k : Fin 10) (c : Dev nD) : ℕ := bs k (prt k c)

theorem bs_len (k : Fin 10) (c : Dev nD) : bs k c + len k ≤ 1024 := by revert k c; decide +kernel
theorem ss_len (k : Fin 10) (c : Dev nD) : ss k c + len k ≤ 1024 := bs_len k _

/-- What is sent at step `k` of the gathering is the block kept after the matching step of the reduction. -/
theorem ss_table (c : Dev nD) : ss 1 c = sd 1 c ∧ ss 2 c = sd 2 c ∧ ss 3 c = sd 3 c ∧ ss 4 c = sd 4 c ∧ ss 5 c = kp 4 c
    ∧ ss 6 c = kp 3 c ∧ ss 7 c = kp 2 c ∧ ss 8 c = kp 1 c ∧ ss 9 c = kp 0 c := by
  revert c; decide +kernel

/-! ## The devices the kernel addresses -/

theorem dev1 (c : Dev nD) : (⟨k0_dev1 c, k0_dev1_lt c⟩ : Dev nD) = prt 0 c := by revert c; decide +kernel
theorem dev2 (c : Dev nD) : (⟨k0_dev2 c, k0_dev2_lt c⟩ : Dev nD) = prt 1 c := by revert c; decide +kernel
theorem dev3 (c : Dev nD) : (⟨k0_dev3 c, k0_dev3_lt c⟩ : Dev nD) = prt 2 c := by revert c; decide +kernel
theorem dev4 (c : Dev nD) : (⟨k0_dev4 c, k0_dev4_lt c⟩ : Dev nD) = prt 3 c := by revert c; decide +kernel
theorem dev5 (c : Dev nD) : (⟨k0_dev5 c, k0_dev5_lt c⟩ : Dev nD) = prt 4 c := by revert c; decide +kernel
theorem dev6 (c : Dev nD) : (⟨k0_dev6 c, k0_dev6_lt c⟩ : Dev nD) = prt 0 c := by revert c; decide +kernel
theorem dev7 (c : Dev nD) : (⟨k0_dev7 c, k0_dev7_lt c⟩ : Dev nD) = prt 1 c := by revert c; decide +kernel
theorem dev8 (c : Dev nD) : (⟨k0_dev8 c, k0_dev8_lt c⟩ : Dev nD) = prt 2 c := by revert c; decide +kernel
theorem dev9 (c : Dev nD) : (⟨k0_dev9 c, k0_dev9_lt c⟩ : Dev nD) = prt 3 c := by revert c; decide +kernel
theorem dev10 (c : Dev nD) : (⟨k0_dev10 c, k0_dev10_lt c⟩ : Dev nD) = prt 4 c := by revert c; decide +kernel
theorem dev11 (c : Dev nD) : (⟨k0_dev11 c, k0_dev11_lt c⟩ : Dev nD) = prt 5 c := by revert c; decide +kernel
theorem dev12 (c : Dev nD) : (⟨k0_dev12 c, k0_dev12_lt c⟩ : Dev nD) = prt 6 c := by revert c; decide +kernel
theorem dev13 (c : Dev nD) : (⟨k0_dev13 c, k0_dev13_lt c⟩ : Dev nD) = prt 7 c := by revert c; decide +kernel
theorem dev14 (c : Dev nD) : (⟨k0_dev14 c, k0_dev14_lt c⟩ : Dev nD) = prt 8 c := by revert c; decide +kernel
theorem dev15 (c : Dev nD) : (⟨k0_dev15 c, k0_dev15_lt c⟩ : Dev nD) = prt 9 c := by revert c; decide +kernel

/-! ## The offsets the kernel computes -/

theorem off1 (c : Dev nD) : k0_off1 c = ![sd 0 c, 0] := by revert c; decide +kernel
theorem off2 (c : Dev nD) : k0_off2 c = ![sd 0 c, 0] := by revert c; decide +kernel
theorem off3 (c : Dev nD) : k0_off3 c = ![kp 0 c, 0] := by revert c; decide +kernel
theorem off4 (c : Dev nD) : k0_off4 c = ![kp 0 c, 0] := by revert c; decide +kernel
theorem off5 (c : Dev nD) : k0_off5 c = ![kp 0 c, 0] := by revert c; decide +kernel
theorem off6 (c : Dev nD) : k0_off6 c = ![sd 1 c, 0] := by revert c; decide +kernel
theorem off7 (c : Dev nD) : k0_off7 c = ![kp 1 c, 0] := by revert c; decide +kernel
theorem off8 (c : Dev nD) : k0_off8 c = ![sd 2 c, 0] := by revert c; decide +kernel
theorem off9 (c : Dev nD) : k0_off9 c = ![kp 2 c, 0] := by revert c; decide +kernel
theorem off10 (c : Dev nD) : k0_off10 c = ![sd 3 c, 0] := by revert c; decide +kernel
theorem off11 (c : Dev nD) : k0_off11 c = ![kp 3 c, 0] := by revert c; decide +kernel
theorem off12 (c : Dev nD) : k0_off12 c = ![sd 4 c, 0] := by revert c; decide +kernel
theorem off13 (c : Dev nD) : k0_off13 c = ![kp 4 c, 0] := by revert c; decide +kernel
theorem off14 (c : Dev nD) : k0_off14 c = ![kp 4 c, 0] := by revert c; decide +kernel
theorem off15 (c : Dev nD) : k0_off15 c = ![sd 4 c, 0] := by revert c; decide +kernel
theorem off16 (c : Dev nD) : k0_off16 c = ![kp 3 c, 0] := by revert c; decide +kernel
theorem off17 (c : Dev nD) : k0_off17 c = ![sd 3 c, 0] := by revert c; decide +kernel
theorem off18 (c : Dev nD) : k0_off18 c = ![kp 2 c, 0] := by revert c; decide +kernel
theorem off19 (c : Dev nD) : k0_off19 c = ![sd 2 c, 0] := by revert c; decide +kernel
theorem off20 (c : Dev nD) : k0_off20 c = ![kp 1 c, 0] := by revert c; decide +kernel
theorem off21 (c : Dev nD) : k0_off21 c = ![sd 1 c, 0] := by revert c; decide +kernel
theorem off22 (c : Dev nD) : k0_off22 c = ![kp 0 c, 0] := by revert c; decide +kernel
theorem off23 (c : Dev nD) : k0_off23 c = ![sd 0 c, 0] := by revert c; decide +kernel

/-- The device's own number, as the kernel computes it. -/
def word (c : Dev nD) : BitVec 32 := Scalar.remsi (Scalar.divsi (Dev.word c) 1#32) 32#32

/-! ## Rows -/

/-- The row of a place in the accumulator. -/
abbrev row (i : S1024x512.Idx) : ℕ := (i (0 : Fin 2)).val

/-- The place at a row (wrapped into the 1024) and a column. -/
def ix (r : ℕ) (q : Fin 512) : S1024x512.Idx := fun a => match a with
  | ⟨0, _⟩ => ⟨r % 1024, Nat.mod_lt _ (by decide)⟩
  | ⟨1, _⟩ => q

/-- The column of a place in the accumulator. -/
def col (i : S1024x512.Idx) : Fin 512 := i (1 : Fin 2)

theorem row_ix {r : ℕ} (h : r < 1024) (q : Fin 512) : row (ix r q) = r := Nat.mod_eq_of_lt h
theorem col_ix (r : ℕ) (q : Fin 512) : col (ix r q) = q := rfl
theorem row_lt (i : S1024x512.Idx) : row i < 1024 := (i (0 : Fin 2)).isLt

theorem idx_ext {i j : S1024x512.Idx} (h0 : row i = row j) (h1 : col i = col j) : i = j :=
  funext fun a => match a with
  | ⟨0, _⟩ => Fin.ext h0
  | ⟨1, _⟩ => h1

theorem ix_row_col (i : S1024x512.Idx) : ix (row i) (col i) = i :=
  idx_ext (row_ix (row_lt i) _) rfl

/-- The rows `o ≤ r < o + n` of the accumulator. -/
def rows (o n : ℕ) : Finset S1024x512.Idx := Finset.univ.filter fun i => o ≤ row i ∧ row i < o + n

theorem mem_rows {o n : ℕ} {i : S1024x512.Idx} : i ∈ rows o n ↔ o ≤ row i ∧ row i < o + n := by
  simp [rows]

/-- The rows of a block of full width are a unit rectangle's elements. -/
theorem rect_set {off : Fin 2 → ℕ} {o n : ℕ} (h : off = ![o, 0])
    (inb : ∀ a, off a + (⟨2, ![n, 512]⟩ : Shape).size a ≤ S1024x512.size a) :
    (Rect.unit (s := S1024x512) off (⟨2, ![n, 512]⟩ : Shape).size inb).set = rows o n := by
  subst h
  ext i
  rw [mem_rows, ← Rect.map_emb_univ, Finset.mem_map]
  constructor
  · rintro ⟨x, -, rfl⟩
    have e : row ((Rect.unit (s := S1024x512) ![o, 0] (⟨2, ![n, 512]⟩ : Shape).size inb).emb x) = o + 1 * (x (0 : Fin 2)).val := rfl
    have hx : (x (0 : Fin 2)).val < n := (x (0 : Fin 2)).isLt
    rw [e]; omega
  · rintro ⟨h1, h2⟩
    refine ⟨fun a => match a with | ⟨0, _⟩ => ⟨row i - o, show row i - o < n by omega⟩ | ⟨1, _⟩ => col i, Finset.mem_univ _, ?_⟩
    refine idx_ext ?_ (Fin.ext ?_)
    · show o + 1 * (row i - o) = row i
      omega
    · show 0 + 1 * (col i).val = (col i).val
      omega

/-- An element of the rectangle, by its row and column. -/
theorem rect_emb {off : Fin 2 → ℕ} {o n : ℕ} (h : off = ![o, 0])
    (inb : ∀ a, off a + (⟨2, ![n, 512]⟩ : Shape).size a ≤ S1024x512.size a) (x : (⟨2, ![n, 512]⟩ : Shape).Idx) :
    (Rect.unit (s := S1024x512) off (⟨2, ![n, 512]⟩ : Shape).size inb).emb x = ix (o + (x (0 : Fin 2)).val) (x (1 : Fin 2)) := by
  subst h
  have hb := inb (0 : Fin 2)
  have hx : (x (0 : Fin 2)).val < n := (x (0 : Fin 2)).isLt
  have hb' : o + n ≤ 1024 := hb
  refine idx_ext ?_ (Fin.ext ?_)
  · show o + 1 * (x (0 : Fin 2)).val = (o + (x (0 : Fin 2)).val) % 1024
    omega
  · show 0 + 1 * (x (1 : Fin 2)).val = (x (1 : Fin 2)).val
    omega

end Cert.KernelIdeal.Run

end
-- ==== Proof.Contents.lean ====
/-
  What every buffer holds, as functions of the launch memory: the staged arguments, the gate table,
  the two halves of a device's partial product, the partial sums after each step of the reduction,
  and what each transfer lands.
-/
module

public import proofs.«01_k».proof.Proof.Arith

@[expose] public section

noncomputable section

namespace Cert.KernelIdeal.Run

open Cert.KernelIdeal Cert.KernelIdeal.Gen
open Idealize.ShloMosaic
open Idealize.ShloMosaic.TcCoe

variable {F : FTy → Type} [FloatOps F]

variable (m : (ℓ : Loc nD τ sig) → Buf (Elt F) ℓ)

/-! ## The memrefs -/

abbrev xM : Memref sig .tc .vmem S1024x256 .bf16 := Memref.whole cc0_stg0_0
abbrev rM : Memref sig .tc .vmem S256x128 .bf16 := Memref.whole cc0_stg1_0
abbrev iM : Memref sig .tc .vmem S1024x2 .i32 := Memref.whole cc0_stg2_0
abbrev eM : Memref sig .tc .vmem S4x256x512 .bf16 := Memref.whole cc0_stg3_0
abbrev oM : Memref sig .tc .vmem S1024x512 .f32 := Memref.whole cc0_stg4_0
abbrev aM : Memref sig .tc .vmem S1024x512 .bf16 := Memref.whole cc0_scratch0
abbrev wM : Memref sig .tc .vmem S1024x128 .f32 := Memref.whole cc0_scratch1
abbrev bM : Memref sig .tc .vmem S512x512 .bf16 := Memref.whole cc0_scratch2
abbrev dM : Memref sig .tc .vmem S1024x512 .bf16 := Memref.whole cc0_scratch3
abbrev gM : Memref sig .tc .vmem S1024x512 .bf16 := Memref.whole cc0_scratch4

/-! ## The staged arguments -/

/-- The tokens, as staged on device `c`; -/
def inX (c : Dev nD) : (cc0_stg0_0 : Ref sig .tc).ty.Contents (Elt F) :=
  (win0_0.blk (0 : Fin 1)).view.read (Elt F) (m ((c : Thread nD τ).loc main_arg0))
/-- the router's weights; -/
def inR (c : Dev nD) : (cc0_stg1_0 : Ref sig .tc).ty.Contents (Elt F) :=
  (win0_1.blk (0 : Fin 1)).view.read (Elt F) (m ((c : Thread nD τ).loc main_arg1))
/-- the routing; -/
def inI (c : Dev nD) : (cc0_stg2_0 : Ref sig .tc).ty.Contents (Elt F) :=
  (win0_2.blk (0 : Fin 1)).view.read (Elt F) (m ((c : Thread nD τ).loc main_arg2))
/-- the device's four experts. -/
def inE (c : Dev nD) : (cc0_stg3_0 : Ref sig .tc).ty.Contents (Elt F) :=
  (win0_3.blk (0 : Fin 1)).view.read (Elt F) (m ((c : Thread nD τ).loc main_arg3))

/-! ## The gate table and the partial product -/

/-- The gate table from the tokens, the router's weights and the routing. -/
def gates (x : Vec F S1024x256 .bf16) (r : Vec F S256x128 .bf16) (i : (cc0_stg2_0 : Ref sig .tc).ty.Contents (Elt F)) : FVec F S1024x128 .f32 :=
  k0_pay3 x r
    (iM.view.readAt (Elt F) (Rect.unit (s := S1024x2) ![0, 0] S1024x1.size inb_S1024x2_S1024x1_0_0).toLoadRect i)
    (iM.view.readAt (Elt F) (Rect.unit (s := S1024x2) ![0, 1] S1024x1.size inb_S1024x2_S1024x1_0_1).toLoadRect i)

/-- Expert `j` of the device's four. -/
def exp0 (e : (cc0_stg3_0 : Ref sig .tc).ty.Contents (Elt F)) : Vec F S1x256x512 .bf16 :=
  eM.view.readAt (Elt F) (Rect.unit (s := S4x256x512) ![0, 0, 0] S1x256x512.size inb_S4x256x512_S1x256x512_0_0_0).toLoadRect e
def exp1 (e : (cc0_stg3_0 : Ref sig .tc).ty.Contents (Elt F)) : Vec F S1x256x512 .bf16 :=
  eM.view.readAt (Elt F) (Rect.unit (s := S4x256x512) ![1, 0, 0] S1x256x512.size inb_S4x256x512_S1x256x512_1_0_0).toLoadRect e
def exp2 (e : (cc0_stg3_0 : Ref sig .tc).ty.Contents (Elt F)) : Vec F S1x256x512 .bf16 :=
  eM.view.readAt (Elt F) (Rect.unit (s := S4x256x512) ![2, 0, 0] S1x256x512.size inb_S4x256x512_S1x256x512_2_0_0).toLoadRect e
def exp3 (e : (cc0_stg3_0 : Ref sig .tc).ty.Contents (Elt F)) : Vec F S1x256x512 .bf16 :=
  eM.view.readAt (Elt F) (Rect.unit (s := S4x256x512) ![3, 0, 0] S1x256x512.size inb_S4x256x512_S1x256x512_3_0_0).toLoadRect e

/-- Half of the tokens, at the offsets `off`. -/
def xAt (off : Fin 2 → ℕ) (inb : ∀ a, off a + S512x256.size a ≤ S1024x256.size a) (x : (cc0_stg0_0 : Ref sig .tc).ty.Contents (Elt F)) : Vec F S512x256 .bf16 :=
  xM.view.readAt (Elt F) (Rect.unit (s := S1024x256) off S512x256.size inb).toLoadRect x
/-- Half of the gate table, at the offsets `off`. -/
def wAt (off : Fin 2 → ℕ) (inb : ∀ a, off a + S512x128.size a ≤ S1024x128.size a) (w : (cc0_scratch1 : Ref sig .tc).ty.Contents (Elt F)) : Vec F S512x128 .f32 :=
  wM.view.readAt (Elt F) (Rect.unit (s := S1024x128) off S512x128.size inb).toLoadRect w

/-- The half of the partial product a device computes first and sends, from its inputs. -/
def sendHalf (v2 : BitVec 32) (x : Vec F S512x256 .bf16) (w : Vec F S512x128 .f32) (e : (cc0_stg3_0 : Ref sig .tc).ty.Contents (Elt F)) : FVec F S512x512 .bf16 :=
  k0_pay7 v2 (k0_pay4 x) w (iota .tc S512x128 32 [1] iota_S512x128_d1_w32) (k0_pay5 v2 x w (exp0 e)) (k0_pay6 v2 x w) (exp1 e) (exp2 e) (exp3 e)
/-- The half it keeps. -/
def keepHalf (v2 : BitVec 32) (x : Vec F S512x256 .bf16) (w : Vec F S512x128 .f32) (e : (cc0_stg3_0 : Ref sig .tc).ty.Contents (Elt F)) : FVec F S512x512 .bf16 :=
  k0_pay10 v2 (k0_pay8 x) w (iota .tc S512x128 32 [1] iota_S512x128_d1_w32) (k0_pay9 v2 x w (exp0 e) (exp1 e)) 4#32 (exp2 e) (exp3 e)

/-- The gate table of device `c`. -/
def wv (c : Dev nD) : (cc0_scratch1 : Ref sig .tc).ty.Contents (Elt F) := gates (inX m c) (inR m c) (inI m c)

/-- What device `c` puts in its send buffer. -/
def sendV (c : Dev nD) : FVec F S512x512 .bf16 :=
  sendHalf (word c) (xAt (k0_off1 c) (k0_off1_inb c) (inX m c)) (wAt (k0_off2 c) (k0_off2_inb c) (wv m c)) (inE m c)
/-- What device `c` puts in its accumulator first. -/
def keepV (c : Dev nD) : FVec F S512x512 .bf16 :=
  keepHalf (word c) (xAt (k0_off3 c) (k0_off3_inb c) (inX m c)) (wAt (k0_off4 c) (k0_off4_inb c) (wv m c)) (inE m c)

/-- The place in a half at a row (wrapped into the 512) and a column. -/
def ix5 (r : ℕ) (q : Fin 512) : S512x512.Idx := fun a => match a with
  | ⟨0, _⟩ => ⟨r % 512, Nat.mod_lt _ (by decide)⟩
  | ⟨1, _⟩ => q

/-- Device `c`'s partial product over all the rows. -/
def part (c : Dev nD) (i : S1024x512.Idx) : F .bf16 :=
  if row i / 512 = bit 8 c then keepV m c (ix5 (row i) (col i)) else sendV m c (ix5 (row i) (col i))

/-- The sum of the partial products met by device `c` after `k` steps of the reduction. -/
def psum : ℕ → Dev nD → S1024x512.Idx → F .bf16
  | 0, c, i => part m c i
  | k + 1, c, i => FloatOps.addf (psum k c i) (psum k (prt ⟨k % 10, Nat.mod_lt _ (by decide)⟩ c) i)

/-- The device that ends up with row `r` of the sum. -/
def owner (r : ℕ) : Dev nD :=
  ⟨(8 * (r / 512 % 2) + r / 256 % 2 + 2 * (r / 128 % 2) + 4 * (r / 64 % 2) + 16 * (r / 32 % 2)) % 32, Nat.mod_lt _ (by decide)⟩

/-- The whole sum. -/
def fin (i : S1024x512.Idx) : F .bf16 := psum m 5 (owner (row i)) i

/-- What device `c`'s source of step `k` holds, by its place in the accumulator. -/
def srcV (k : Fin 10) (c : Dev nD) : S1024x512.Idx → F .bf16 := if k.val < 5 then psum m k.val c else fin m

/-- What step `k` lands at device `p`, by its place in the landing buffer. -/
def lnd (k : Fin 10) (p : Dev nD) (i : S1024x512.Idx) : F .bf16 :=
  srcV m k (prt k p) (ix (bs k p + (row i - roff k)) (col i))

/-- The kernel's result. -/
def outV : (cc0_stg4_0 : Ref sig .tc).ty.Contents (Elt F) := k0_pay2 (fin m)

/-- A device that keeps a row through the whole reduction owns it. -/
theorem owner_kp (c : Dev nD) (j : Fin 32) : owner (kp 4 c + j.val) = c := by revert c j; decide +kernel

theorem fin_eq {c : Dev nD} {i : S1024x512.Idx} (h : i ∈ rows (kp 4 c) 32) : fin m i = psum m 5 c i := by
  obtain ⟨h1, h2⟩ := mem_rows.mp h
  have e : owner (row i) = c := by
    have := owner_kp c ⟨row i - kp 4 c, by omega⟩
    rw [show kp 4 c + (row i - kp 4 c) = row i by omega] at this
    exact this
  unfold fin; rw [e]

/-! ## Reading and writing blocks of rows -/

/-- Reading a rectangle of a whole buffer, at an element of it. -/
theorem read_slice (b : Ref sig .tc) (r : Rect b.ty.shape) (f : b.ty.Contents (Elt F)) (x : r.shape.Idx) :
    ((View.whole b).slice r).read (Elt F) f x = f (r.emb x) := rfl

/-- Writing a rectangle of a whole buffer, at an element of it. -/
theorem write_slice (b : Ref sig .tc) (r : Rect b.ty.shape) (f : b.ty.Contents (Elt F)) (w : r.shape.Idx → Elt F b.ty.elt) (x : r.shape.Idx) :
    ((View.whole b).slice r).write (Elt F) f w Finset.univ (r.emb x) = w x :=
  View.write_emb_of_mem (v := (View.whole b).slice r) f w (Finset.mem_univ x)

/-- Writing it leaves the rest. -/
theorem write_slice_not (b : Ref sig .tc) (r : Rect b.ty.shape) (f : b.ty.Contents (Elt F)) (w : r.shape.Idx → Elt F b.ty.elt) {i : b.ty.shape.Idx}
    (h : i ∉ r.set) : ((View.whole b).slice r).write (Elt F) f w Finset.univ i = f i :=
  View.write_of_not_mem (v := (View.whole b).slice r) f w Finset.univ (by rw [View.setOn_univ, View.set_slice_whole]; exact h)

end Cert.KernelIdeal.Run

end
-- ==== Proof.Sched.lean ====
/-
  The protocol: for every semaphore who waits on it, who pays it, how much, and what each payment
  hands over; what a device owes at each moment, and the levels that order the waits.

  A device has 21 cells. Its barrier cell is paid one unit by each of its five partners; the unit of
  partner `d` hands over that partner's landing places of the two steps at which the two meet. The
  cells `send k` and `recv k` of the ten exchanges are paid once, by the transfer: the send cell gives
  the source back, the receive cell gives the landing place filled.
-/
module

public import proofs.«01_k».proof.Proof.Contents

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The runtime's barrier semaphore. -/
abbrev barS : Sem sig := (SemArray.scalar (sig.barrier 0 rfl) : Sems sig S_).sem

/-- The send semaphore of step `k`; -/
def snd (k : Fin 10) : DmaSem sig := ⟨5 + k.val, by have := k.isLt; show _ < 25; omega⟩
/-- the receive semaphore of step `k`. -/
def rcv (k : Fin 10) : DmaSem sig := ⟨15 + k.val, by have := k.isLt; show _ < 25; omega⟩

abbrev barC (c : Dev nD) : GSem nD τ sig := ((c : Thread nD τ), .reg barS)
abbrev sndC (k : Fin 10) (c : Dev nD) : GSem nD τ sig := ((c : Thread nD τ), .dma (snd k))
abbrev rcvC (k : Fin 10) (c : Dev nD) : GSem nD τ sig := ((c : Thread nD τ), .dma (rcv k))

/-- What the transfer of step `k` adds to each of its two cells. -/
def N (k : Fin 10) : ℕ := sig.dmaCredit .tc (Kind.tc.table .vmem) (8 : Fin _) ⟨2, ![len k, 512]⟩ .bf16

theorem N_pos (k : Fin 10) : 0 < N k :=
  sig.dmaCredit_pos _ _ _ _ _ (by revert k; decide)

/-! ## The pieces of memory that change hands -/

/-- Device `p`'s landing place of step `k`, holding `f`. -/
def dstP (k : Fin 10) (p : Dev nD) (f : S1024x512.Idx → F .bf16) : sProp 𝕄 :=
  if k.val < 5 then dM.view.loc (p : Thread nD τ) ↦[rows (roff k) (len k)]{fullShare} f
  else gM.view.loc (p : Thread nD τ) ↦[rows (roff k) (len k)]{fullShare} f

/-- Device `c`'s source of step `k`, with what it sends. -/
def srcP (k : Fin 10) (c : Dev nD) : sProp 𝕄 :=
  if k = 0 then bM.view.loc (c : Thread nD τ) ↦{fullShare} (sendV m c : S512x512.Idx → F .bf16)
  else aM.view.loc (c : Thread nD τ) ↦[rows (ss k c) (len k)]{fullShare} srcV m k c

/-- What partner `d`'s unit on `c`'s barrier hands `c`. -/
def barP (d : Fin 5) (c : Dev nD) : sProp 𝕄 :=
  iprop((∃ f, dstP (rs d) (prt (rs d) c) f) ∗ ∃ f, dstP (Fin.rev (rs d)) (prt (rs d) c) f)

instance dstP_storable (k : Fin 10) (p : Dev nD) (f) : BI.Storable (upEmb : UEmb _ 𝕄) (dstP (F := F) k p f) := by
  unfold dstP; split <;> infer_instance
instance srcP_storable (k : Fin 10) (c : Dev nD) : BI.Storable (upEmb : UEmb _ 𝕄) (srcP (F := F) m k c) := by
  unfold srcP; split <;> infer_instance
instance barP_storable (d : Fin 5) (c : Dev nD) : BI.Storable (upEmb : UEmb _ 𝕄) (barP (F := F) d c) := by
  unfold barP; infer_instance

/-! ## The schedule -/

/-- The step a transfer's semaphore belongs to. -/
def kOf (q : DmaSem sig) : Fin 10 := ⟨(q.val - 5) % 10, Nat.mod_lt _ (by decide)⟩

theorem kOf_snd (k : Fin 10) : kOf (snd k) = k := by revert k; decide
theorem kOf_rcv (k : Fin 10) : kOf (rcv k) = k := by revert k; decide
theorem snd_val (k : Fin 10) : (snd k).val = 5 + k.val := rfl
theorem rcv_val (k : Fin 10) : (rcv k).val = 15 + k.val := rfl

def dutiesOf : SemLoc sig → Finset (Fin 5)
  | .reg _ => Finset.univ
  | .dma q => if q.val < 5 then ∅ else {0}

def amountOf : SemLoc sig → ℕ
  | .reg _ => 1
  | .dma q => N (kOf q)

def payOf (c : Dev nD) (d : Fin 5) : SemLoc sig → sProp 𝕄
  | .reg _ => barP d c
  | .dma q => if q.val < 15 then srcP m (kOf q) c else dstP (kOf q) c (lnd m (kOf q) c)

/-- One round: five units on a barrier cell, one transfer on a send or receive cell. -/
def sch : Rounds.Schedule (GSem nD τ sig) (Fin 5) 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨_, _ | q⟩
    · exact Nat.one_pos
    · exact N_pos _

instance sch_storable (g : GSem nD τ sig) (r : ℕ) (d : Fin 5) :
    BI.Storable (upEmb : UEmb _ 𝕄) ((sch (F := F) m).payload g r d) := by
  show BI.Storable upEmb (payOf m g.1.1 d g.2)
  unfold payOf
  (repeat' split) <;> infer_instance

section Sched
variable (c : Dev nD) (k : Fin 10)

theorem duties_bar : (sch (F := F) m).duties (barC c) 0 = Finset.univ := by
  dsimp only [sch]; rw [if_pos ⟨rfl, rfl⟩]; rfl
theorem duties_snd : (sch (F := F) m).duties (sndC k c) 0 = {0} :=
  by dsimp only [sch]; rw [if_pos ⟨rfl, rfl⟩]; exact if_neg (by rw [snd_val]; omega)
theorem duties_rcv : (sch (F := F) m).duties (rcvC k c) 0 = {0} :=
  by dsimp only [sch]; rw [if_pos ⟨rfl, rfl⟩]; exact if_neg (by rw [rcv_val]; omega)
theorem duties_later (g : GSem nD τ sig) : ∀ r, 1 ≤ r → (sch (F := F) m).duties g r = ∅ :=
  fun r hr => by dsimp only [sch]; exact if_neg fun h => by omega

theorem amount_bar (d : Fin 5) : (sch (F := F) m).amount (barC c) 0 d = 1 := rfl
theorem amount_snd (d : Fin 5) : (sch (F := F) m).amount (sndC k c) 0 d = N k := congrArg N (kOf_snd k)
theorem amount_rcv (d : Fin 5) : (sch (F := F) m).amount (rcvC k c) 0 d = N k := congrArg N (kOf_rcv k)

theorem expect_bar : (sch (F := F) m).expect (barC c) 0 = 5 := by
  unfold Schedule.expect Schedule.amountOf
  rw [duties_bar, Finset.sum_congr rfl fun d _ => amount_bar m c d, Finset.sum_const, Finset.card_univ, Fintype.card_fin, smul_eq_mul]
theorem expect_snd : (sch (F := F) m).expect (sndC k c) 0 = N k := by
  unfold Schedule.expect Schedule.amountOf; rw [duties_snd, Finset.sum_singleton, amount_snd]
theorem expect_rcv : (sch (F := F) m).expect (rcvC k c) 0 = N k := by
  unfold Schedule.expect Schedule.amountOf; rw [duties_rcv, Finset.sum_singleton, amount_rcv]

theorem payload_bar (d : Fin 5) : (sch (F := F) m).payload (barC c) 0 d = barP d c := rfl
theorem payload_snd (d : Fin 5) : (sch (F := F) m).payload (sndC k c) 0 d = srcP m k c := by
  show (if (snd k).val < 15 then srcP m (kOf (snd k)) c else dstP (kOf (snd k)) c (lnd m (kOf (snd k)) c)) = _
  rw [if_pos (by rw [snd_val]; have := k.isLt; omega), kOf_snd]
theorem payload_rcv (d : Fin 5) : (sch (F := F) m).payload (rcvC k c) 0 d = dstP k c (lnd m k c) := by
  show (if (rcv k).val < 15 then srcP m (kOf (rcv k)) c else dstP (kOf (rcv k)) c (lnd m (kOf (rcv k)) c)) = _
  rw [if_neg (by rw [rcv_val]; omega), kOf_rcv]

theorem rest_bar : bigSep ((sch (F := F) m).duties (barC c) 0 \ ∅) (fun d => (sch (F := F) m).payload (barC c) 0 d)
    = iprop(barP 0 c ∗ barP 1 c ∗ barP 2 c ∗ barP 3 c ∗ barP 4 c) := by
  rw [Finset.sdiff_empty, duties_bar, bigSep_univ_eq_bigSepL [0, 1, 2, 3, 4] (by decide) (by decide)]
  rfl
theorem rest_snd : bigSep ((sch (F := F) m).duties (sndC k c) 0 \ ∅) (fun d => (sch (F := F) m).payload (sndC k c) 0 d) = srcP m k c := by
  rw [Finset.sdiff_empty, duties_snd, bigSep_singleton, payload_snd]
theorem rest_rcv : bigSep ((sch (F := F) m).duties (rcvC k c) 0 \ ∅) (fun d => (sch (F := F) m).payload (rcvC k c) 0 d) = dstP k c (lnd m k c) := by
  rw [Finset.sdiff_empty, duties_rcv, bigSep_singleton, payload_rcv]

end Sched

/-! ## What a device owes -/

/-- What is owed with `j` exchanges to come: the credit of each on its partner's receive cell. -/
def Ow (c : Dev nD) : ℕ → CellTallies nD τ sig Unit
  | 0 => 0
  | j + 1 => Ow c j + tallyAt (rcvC ⟨9 - j, by omega⟩ (prt ⟨9 - j, by omega⟩ c)) () (N ⟨9 - j, by omega⟩)

/-- What is owed with all ten to come and `j` signals too: a unit on each of those partners' barriers. -/
def Ob (c : Dev nD) : ℕ → CellTallies nD τ sig Unit
  | 0 => Ow c 10
  | j + 1 => Ob c j + tallyAt (barC (prt ⟨4 - j, by omega⟩ c)) () 1

theorem Ow_peel (c : Dev nD) (k : Fin 10) : Ow c (10 - k.val) = Ow c (9 - k.val) + tallyAt (rcvC k (prt k c)) () (N k) := by
  fin_cases k <;> rfl

theorem Ob_peel (c : Dev nD) (d : Fin 5) : Ob c (5 - d.val) = Ob c (4 - d.val) + tallyAt (barC (prt (rs d) c)) () 1 := by
  fin_cases d <;> rfl

theorem Ow_pos {c : Dev nD} {j : ℕ} {g : GSem nD τ sig} {u : Unit} (h : 0 < Ow c j g u) :
    ∃ k : Fin 10, 10 ≤ j + k.val ∧ g = rcvC k (prt k c) := by
  induction j with
  | zero => exact absurd h (Nat.lt_irrefl 0)
  | succ j ih =>
    unfold Ow at h
    rw [Pi.add_apply, Finsupp.add_apply, tallyAt_apply] at h
    by_cases hg : g = rcvC ⟨9 - j, by omega⟩ (prt ⟨9 - j, by omega⟩ c) ∧ u = ()
    · exact ⟨_, by show 10 ≤ j + 1 + (9 - j); omega, hg.1⟩
    · rw [if_neg hg] at h
      obtain ⟨k, hk, e⟩ := ih h
      exact ⟨k, by omega, e⟩

theorem Ob_pos {c : Dev nD} {j : ℕ} {g : GSem nD τ sig} {u : Unit} (h : 0 < Ob c j g u) :
    (∃ k : Fin 10, g = rcvC k (prt k c)) ∨ ∃ p : Dev nD, g = barC p := by
  induction j with
  | zero => obtain ⟨k, -, e⟩ := Ow_pos h; exact Or.inl ⟨k, e⟩
  | succ j ih =>
    unfold Ob at h
    rw [Pi.add_apply, Finsupp.add_apply, tallyAt_apply] at h
    by_cases hg : g = barC (prt ⟨4 - j, by omega⟩ c) ∧ u = ()
    · exact Or.inr ⟨_, hg.1⟩
    · rw [if_neg hg] at h
      exact ih h

/-! ## Levels -/

def L (g : GSem nD τ sig) : Finset Unit := if g.1.2 = .tc then {()} else ∅

def lvOf : SemLoc sig → ℕ
  | .reg _ => 1
  | .dma q => if q.val < 15 then 0 else q.val

/-- A barrier cell at 1, the receive cells above it in the order of the steps, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_rcv (k : Fin 10) : lvOf (.dma (rcv k)) = 15 + k.val := by
  show (if (rcv k).val < 15 then 0 else (rcv k).val) = _
  rw [if_neg (by rw [rcv_val]; omega), rcv_val]
theorem lv_snd (k : Fin 10) : lvOf (.dma (snd k)) = 0 :=
  if_pos (by rw [snd_val]; have := k.isLt; omega)

/-- A wait is allowed below everything owed. -/
theorem mayWait_below (c : Dev nD) (sm : SemLoc sig) (O : CellTallies nD τ sig Unit) (n : ℕ) (hsm : lvOf sm ≤ n)
    (hO : ∀ g u, 0 < O g u → g.1.2 = .tc ∧ n < lvOf g.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_snd (c : Dev nD) (k : Fin 10) (j : ℕ) :
    (levAts L lv : sProp 𝕄) ⊢ MayWait (c : Thread nD τ) (.dma (snd k)) () (Ow c j) :=
  mayWait_below c _ _ 0 (by rw [lv_snd]) fun g u hg => by
    obtain ⟨k', -, rfl⟩ := Ow_pos hg
    exact ⟨rfl, by rw [lv_rcv]; omega⟩

theorem mayWait_rcv (c : Dev nD) (k : Fin 10) :
    (levAts L lv : sProp 𝕄) ⊢ MayWait (c : Thread nD τ) (.dma (rcv k)) () (Ow c (9 - k.val)) :=
  mayWait_below c _ _ (15 + k.val) (by rw [lv_rcv]) fun g u hg => by
    obtain ⟨k', h, rfl⟩ := Ow_pos hg
    exact ⟨rfl, by rw [lv_rcv]; omega⟩

theorem mayWait_bar (c : Dev nD) :
    (levAts L lv : sProp 𝕄) ⊢ MayWait (c : Thread nD τ) (.reg barS) () (Ow c 10) :=
  mayWait_below c _ _ 1 le_rfl fun g u hg => by
    obtain ⟨k', -, rfl⟩ := Ow_pos hg
    exact ⟨rfl, by rw [lv_rcv]; omega⟩

theorem mayWait_stage (c : Dev nD) (q : DmaSem sig) (hq : q.val < 5) (O : CellTallies nD τ sig Unit) (hO : O = Ob c 5 ∨ O = 0) :
    (levAts L lv : sProp 𝕄) ⊢ MayWait (c : Thread nD τ) (.dma q) () O := by
  rcases hO with rfl | rfl
  · refine mayWait_below c _ _ 0 (by show (if q.val < 15 then 0 else q.val) ≤ 0; rw [if_pos (by omega)]) fun g u hg => ?_
    rcases Ob_pos hg with ⟨k', rfl⟩ | ⟨p, rfl⟩
    · exact ⟨rfl, by rw [lv_rcv]; omega⟩
    · exact ⟨rfl, Nat.one_pos⟩
  · rw [MayWait_zero]; iintro -; iempintro

/-! ## The records: every cell's invariant and that its round is open -/

/-- The cells of a device by number: the barrier, then the send cells, then the receive cells. -/
def csem (j : Fin 21) : SemLoc sig := if j.val = 0 then .reg barS else .dma ⟨j.val + 4, by have := j.isLt; show _ < 25; omega⟩
abbrev cell (cj : Dev nD × Fin 21) : GSem nD τ sig := ((cj.1 : Thread nD τ), csem cj.2)

/-- The number of step `k`'s send cell, and of its receive cell. -/
def jS (k : Fin 10) : Fin 21 := ⟨1 + k.val, by omega⟩
def jR (k : Fin 10) : Fin 21 := ⟨11 + k.val, by omega⟩

theorem csem_jS (k : Fin 10) : csem (jS k) = .dma (snd k) := by revert k; decide
theorem csem_jR (k : Fin 10) : csem (jR k) = .dma (rcv k) := by revert k; decide
theorem csem_0 : csem 0 = .reg barS := rfl

variable (K : Dev nD × Fin 21 → ℕ)

def recs : sProp 𝕄 :=
  iprop((bigSep Finset.univ fun ck : Dev nD × Fin 21 => cellInv ER (sch m) (K ck) (cell ck))
    ∗ bigSep Finset.univ fun ck : Dev nD × Fin 21 => reached ER (cell ck) 0)

instance recs_persistent : BI.Persistent (recs m K) := by unfold recs; infer_instance

theorem recs_inv (ck : Dev nD × Fin 21) : (recs m K) ⊢ cellInv ER (sch m) (K ck) (cell ck) := by
  unfold recs; exact Laws.sep_elim_left.trans (bigSep_elim (Finset.mem_univ ck))
theorem recs_reached (ck : Dev nD × Fin 21) : (recs m K) ⊢ reached ER (cell ck) 0 := by
  unfold recs; exact Laws.sep_elim_right.trans (bigSep_elim (Finset.mem_univ ck))

theorem recs_bar (c : Dev nD) : (recs m K) ⊢ cellInv ER (sch m) (K (c, 0)) (barC c) := recs_inv m K (c, 0)
theorem recs_snd (k : Fin 10) (c : Dev nD) : (recs m K) ⊢ cellInv ER (sch m) (K (c, jS k)) (sndC k c) := by
  have h := recs_inv m K (c, jS k); dsimp only [cell] at h; rwa [csem_jS] at h
theorem recs_rcv (k : Fin 10) (c : Dev nD) : (recs m K) ⊢ cellInv ER (sch m) (K (c, jR k)) (rcvC k c) := by
  have h := recs_inv m K (c, jR k); dsimp only [cell] at h; rwa [csem_jR] at h
theorem recs_rbar (c : Dev nD) : (recs m K) ⊢ reached ER (barC c) 0 := recs_reached m K (c, 0)
theorem recs_rsnd (k : Fin 10) (c : Dev nD) : (recs m K) ⊢ reached ER (sndC k c) 0 := by
  have h := recs_reached m K (c, jS k); dsimp only [cell] at h; rwa [csem_jS] at h
theorem recs_rrcv (k : Fin 10) (c : Dev nD) : (recs m K) ⊢ reached ER (rcvC k c) 0 := by
  have h := recs_reached m K (c, jR k); dsimp only [cell] at h; rwa [csem_jR] at h

end Cert.KernelIdeal.Run

end
-- ==== Proof.Steps.lean ====
/-
  The effects of an exchange as rules: the transfer out, the wait that gives its source back, and the
  wait that gives the landing place filled; after each wait the cell is closed.
-/
module

public import proofs.«01_k».proof.Proof.Sched

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

abbrev 𝒱₀ : Variants := Variants.none

/-- What a device holds for the exchange of step `k`: its positions on its two cells, the duties of the
    transfer it makes, and the credit of the one it receives. -/
def stepR (k : Fin 10) (c : Dev nD) : sProp 𝕄 :=
  iprop(atPos ER (sndC k c) 0 ∅ 0 ∗ atPos ER (rcvC k c) 0 ∅ 0 ∗ dutyTok ER (sndC k c) 0 (0 : Fin 5)
    ∗ dutyTok ER (rcvC k (prt k c)) 0 (0 : Fin 5) ∗ cred (tallyAt (rcvC k c) () (N k)))

/-- What is left of that once the transfer is on its way. -/
def stepR₁ (k : Fin 10) (c : Dev nD) : sProp 𝕄 :=
  iprop(atPos ER (sndC k c) 0 ∅ 0 ∗ atPos ER (rcvC k c) 0 ∅ 0 ∗ cred (tallyAt (sndC k c) () (N k)) ∗ cred (tallyAt (rcvC k c) () (N k)))

/-- And once the source is back. -/
def stepR₂ (k : Fin 10) (c : Dev nD) : sProp 𝕄 :=
  iprop(semVal (sndC k c) 0 ∗ atPos ER (rcvC k c) 0 ∅ 0 ∗ cred (tallyAt (rcvC k c) () (N k)))

/-- And at the end: both counters back at zero. -/
def stepR₃ (k : Fin 10) (c : Dev nD) : sProp 𝕄 := iprop(semVal (sndC k c) 0 ∗ semVal (rcvC k c) 0)

/-- What is owed, the set of waits made left open. -/
def owe (c : Dev nD) (O : CellTallies nD τ sig Unit) : sProp 𝕄 := iprop(∃ W : Waits sig Unit, owes (c : Thread nD τ) O W)

/-- The transfer of step `k`, to the device `n` that is `c`'s partner. -/
theorem wp_start (k : Fin 10) (c n : Dev nD) (hn : n = prt k c) {s : Shape}
    {src : Memref sig .tc .vmem s .bf16} {dst : Memref sig (Dev.tc n : Thread nD τ).2.kind .vmem s .bf16}
    {hsc : dst.view.ref.isScScratch = false} {sS sR : DmaSem sig} (hsS : sS = snd k) (hsR : sR = rcv k)
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (fs : Buf (Elt F) (src.view.loc (c : Thread nD τ))) (fd : Buf (Elt F) (dst.view.loc (n : Thread nD τ)))
    (hN : dst.view.dmaCredit = N k)
    (h₁ : (src.view.loc (c : Thread nD τ) ↦[src.view.set]{fullShare} fs) ⊢ srcP m k c)
    (h₂ : (dst.view.loc (n : Thread nD τ) ↦[dst.view.set]{fullShare} (dst.view.write (Elt F) fd (src.view.read (Elt F) fs) Finset.univ))
      ⊢ dstP k n (lnd m k n)) :
    iprop(recs m K ∗ stepR k c ∗ owe c (Ow c (10 - k.val)) ∗ (src.view.loc (c : Thread nD τ) ↦[src.view.set]{fullShare} fs)
        ∗ (dst.view.loc (n : Thread nD τ) ↦[dst.view.set]{fullShare} fd))
      ⊢ iprop(((stepR₁ k c ∗ owe c (Ow c (9 - k.val))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hsS hsR
  unfold stepR stepR₁ owe
  iintro ⟨#HR, ⟨HaS, HaV, HtS, HtV, HcV⟩, ⟨%W, HO⟩, Hs, Hd⟩ Hk
  iapply (Rounds.wp_send_pointsTo 𝒱₀ ER (sch m) (c : Thread nD τ) none (κ₁ := K (c, jS k)) (κ₂ := K (prt k c, jR k))
    (r₁ := 0) (r₂ := 0) (d₁ := (0 : Fin 5)) (d₂ := (0 : Fin 5)) (fs := fs) (fd := fd)
    (by rw [duties_snd]; exact Finset.mem_singleton_self _) (by rw [duties_rcv]; exact Finset.mem_singleton_self _)
    () () (N k) (show dst.view.amount (.dma (rcv k)) = N k from hN) (amount_snd m c k 0) (amount_rcv m (prt k c) k 0) (Ow c (9 - k.val)) (Ow_peel c k) (W := W)
    (by rw [payload_snd]; exact h₁) (by rw [payload_rcv]; exact h₂)) $$ [HO HtS HtV Hs Hd]
  · isplitr; · iapply (recs_snd m K k c); iexact HR
    isplitr; · iapply (recs_rcv m K k (prt k c)); iexact HR
    isplitl [Hs]; · iexact Hs
    isplitl [Hd]; · iexact Hd
    isplitl [HO]; · iexact HO
    isplitl [HtS]; · iexact HtS
    isplitr; · iapply (recs_rsnd m K k c); iexact HR
    isplitl [HtV]; · iexact HtV
    iapply (recs_rrcv m K k (prt k c)); iexact HR
  iintro ⟨HcS, HO⟩
  iapply Hk
  isplitr [HO]
  · isplitl [HaS]; · iexact HaS
    isplitl [HaV]; · iexact HaV
    isplitl [HcS] <;> iassumption
  iexists W; iexact HO

/-- The wait on the send cell of step `k`: the source is back and the cell closed. -/
theorem wp_back (k : Fin 10) (c : Dev nD) {s s' : Shape} {e e' : EltTy} {sS : DmaSem sig} (hsS : sS = snd k)
    {src : Memref sig .tc .vmem s' e'} {dst : Memref sig .tc .vmem s e} {hsrc : src.view.WordExact} {hdst : dst.view.WordExact}
    {α : Type} {Q : α → sProp 𝕄} {kk : PUnit → Prog (TpuEff nD τ sig (Elt F) Λ₀ .tc) α}
    (hN : dst.view.dmaCredit = N k) :
    iprop(recs m K ∗ levAts L lv ∗ stepR₁ k c ∗ owe c (Ow c (9 - k.val)))
      ⊢ iprop(((stepR₂ k c ∗ owe c (Ow c (9 - k.val)) ∗ srcP m k c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hsS
  unfold stepR₁ stepR₂ owe
  iintro ⟨#HR, #Hlev, ⟨HaS, HaV, HcS, HcV⟩, ⟨%W, HO⟩⟩ Hk
  iapply (Rounds.wp_wait_rest_token 𝒱₀ ER (sch m) (c : Thread nD τ) none (κ := K (c, jS k))
      (wpE_waitDma2_eq 𝒱₀ (c : Thread nD τ) none Set.univ) (Set.mem_univ _) () (O := Ow c (9 - k.val)) (W := W) (R := 0) (m := 0) (T := ∅)
      (by rw [Nat.zero_add, expect_snd, hN])) $$ [HcS HO HaS]
  · isplitr; · iapply (recs_snd m K k c); iexact HR
    isplitl [HcS]; · rw [hN]; iexact HcS
    isplitl [HO]; · iexact HO
    isplitr; · iapply (mayWait_snd c k (9 - k.val)); iexact Hlev
    iexact HaS
  iintro ⟨HO, HaS, -, Hpay⟩
  ihave Hp := (Entails.of_eq (rest_snd m c k)) $$ Hpay
  imod (Rounds.cell_close ER (sch m) (Set.mem_univ (K (c, jS k))) (fun h => h) (R := 0 + 1) (duties_later m (sndC k c))) $$ [HaS] with HzS
  · isplitr; · iapply (recs_snd m K k c); iexact HR
    iexact HaS
  iapply Hk
  isplitl [HzS HaV HcV]
  · isplitl [HzS]; · iexact HzS
    isplitl [HaV] <;> iassumption
  isplitl [HO]; · iexists _; iexact HO
  iexact Hp

/-- The wait on the receive cell of step `k`: the landing place is filled and the cell closed. -/
theorem wp_recv (k : Fin 10) (c : Dev nD) {s s' : Shape} {e e' : EltTy} {sR : DmaSem sig} (hsR : sR = rcv k)
    {src : Memref sig .tc .vmem s' e'} {dst : Memref sig .tc .vmem s e} {hsrc : src.view.WordExact} {hdst : dst.view.WordExact}
    {α : Type} {Q : α → sProp 𝕄} {kk : PUnit → Prog (TpuEff nD τ sig (Elt F) Λ₀ .tc) α}
    (hN : dst.view.dmaCredit = N k) :
    iprop(recs m K ∗ levAts L lv ∗ stepR₂ k c ∗ owe c (Ow c (9 - k.val)))
      ⊢ iprop(((stepR₃ k c ∗ owe c (Ow c (9 - k.val)) ∗ dstP k c (lnd m k c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR src dst hsrc hdst) kk) Q) := by
  subst hsR
  unfold stepR₂ stepR₃ owe
  iintro ⟨#HR, #Hlev, ⟨HzS, HaV, HcV⟩, ⟨%W, HO⟩⟩ Hk
  iapply (Rounds.wp_wait_rest_token 𝒱₀ ER (sch m) (c : Thread nD τ) none (κ := K (c, jR k))
      (wpE_waitDma2_eq 𝒱₀ (c : Thread nD τ) none Set.univ) (Set.mem_univ _) () (O := Ow c (9 - k.val)) (W := W) (R := 0) (m := 0) (T := ∅)
      (by rw [Nat.zero_add, expect_rcv, hN])) $$ [HcV HO HaV]
  · isplitr; · iapply (recs_rcv m K k c); iexact HR
    isplitl [HcV]; · rw [hN]; iexact HcV
    isplitl [HO]; · iexact HO
    isplitr; · iapply (mayWait_rcv c k); iexact Hlev
    iexact HaV
  iintro ⟨HO, HaV, -, Hpay⟩
  ihave Hp := (Entails.of_eq (rest_rcv m c k)) $$ Hpay
  imod (Rounds.cell_close ER (sch m) (Set.mem_univ (K (c, jR k))) (fun h => h) (R := 0 + 1) (duties_later m (rcvC k c))) $$ [HaV] with HzV
  · isplitr; · iapply (recs_rcv m K k c); iexact HR
    iexact HaV
  iapply Hk
  isplitl [HzS HzV]
  · isplitl [HzS] <;> iassumption
  isplitl [HO]; · iexists _; iexact HO
  iexact Hp

/-- The signal to partner `d`: its unit, with the two landing places at which the two meet. -/
theorem wp_sig (d : Fin 5) (c n : Dev nD) (hn : n = prt (rs d) c) {j : ℕ} (hj : j = 1) {sB : Sem sig} (hsB : sB = barS)
    {α : Type} {Q : α → sProp 𝕄} {kk : PUnit → Prog (TpuEff nD τ sig (Elt F) Λ₀ .tc) α} (f g : S1024x512.Idx → F .bf16) :
    iprop(recs m K ∗ dutyTok ER (barC (prt (rs d) c)) 0 d ∗ owe c (Ob c (5 - d.val)) ∗ dstP (rs d) c f ∗ dstP (Fin.rev (rs d)) c g)
      ⊢ iprop((owe c (Ob c (4 - d.val)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sB j) kk) Q) := by
  subst hn hj hsB
  unfold owe
  iintro ⟨#HR, Ht, ⟨%W, HO⟩, Hf, Hg⟩ Hk
  iapply (Rounds.wp_signal 𝒱₀ ER (sch m) (c : Thread nD τ) none (dst := (prt (rs d) c : Thread nD τ)) (κ := K (prt (rs d) c, 0))
      (d := d) (by rw [duties_bar]; exact Finset.mem_univ _) (amount_bar m (prt (rs d) c) d) () (Ob c (4 - d.val)) (Ob_peel c d))
    $$ [HO Ht Hf Hg]
  · isplitr; · iapply (recs_bar m K (prt (rs d) c)); iexact HR
    isplitl [HO]; · iexact HO
    isplitl [Ht]; · iexact Ht
    isplitl [Hf Hg]
    · rw [payload_bar]; unfold barP; rw [prt_prt]
      isplitl [Hf]; · iexists f; iexact Hf
      iexists g; iexact Hg
    iapply (recs_rbar m K (prt (rs d) c)); iexact HR
  iintro HO
  iapply Hk
  iexists W; iexact HO

/-- The wait for the five units: every landing place `c` will write into, and the barrier cell closed. -/
theorem wp_bar (c : Dev nD) {j : ℕ} (hj : j = 5) {sB : Sem sig} (hsB : sB = barS)
    {α : Type} {Q : α → sProp 𝕄} {kk : PUnit → Prog (TpuEff nD τ sig (Elt F) Λ₀ .tc) α} :
    iprop(recs m K ∗ levAts L lv ∗ atPos ER (barC c) 0 ∅ 0 ∗ cred (tallyAt (barC c) () 5) ∗ owe c (Ow c 10))
      ⊢ iprop(((semVal (barC c) 0 ∗ owe c (Ow c 10) ∗ barP 0 c ∗ barP 1 c ∗ barP 2 c ∗ barP 3 c ∗ barP 4 c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sB j) kk) Q) := by
  subst hj hsB
  unfold owe
  iintro ⟨#HR, #Hlev, HaB, HcB, ⟨%W, HO⟩⟩ Hk
  iapply (Rounds.wp_wait_rest_token 𝒱₀ ER (sch m) (c : Thread nD τ) none (κ := K (c, 0))
      (wpE_semWait_eq 𝒱₀ (c : Thread nD τ) none Set.univ) (Set.mem_univ _) () (O := Ow c 10) (W := W) (R := 0) (m := 0) (T := ∅)
      (by rw [expect_bar])) $$ [HcB HO HaB]
  · isplitr; · iapply (recs_bar m K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  imod (Rounds.cell_close ER (sch m) (Set.mem_univ (K (c, 0))) (fun h => h) (R := 0 + 1) (duties_later m (barC c))) $$ [HaB] with HzB
  · isplitr; · iapply (recs_bar m K c); iexact HR
    iexact HaB
  iapply Hk
  isplitl [HzB]; · iexact HzB
  isplitl [HO]; · iexists _; iexact HO
  iexact Hp

end Cert.KernelIdeal.Run

end
-- ==== Proof.Acc.lean ====
/-
  The accumulator: what is known of a block of its rows, and the rules for the transfers out of it, the
  loads of a block, the loads of what landed, and the stores into a block.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

/-- Device `c`'s accumulator, known to hold `v` on the rows `o ≤ r < o + n`. -/
def accI (c : Dev nD) (o n : ℕ) (v : S1024x512.Idx → F .bf16) : sProp 𝕄 :=
  iprop(∃ f : S1024x512.Idx → F .bf16, ⌜∀ i ∈ rows o n, f i = v i⌝ ∗ (aM.view.loc (c : Thread nD τ) ↦{fullShare} f))

/-- The same while the source of step `k` is on loan to its transfer. -/
def accH (k : Fin 10) (c : Dev nD) (o n : ℕ) (v : S1024x512.Idx → F .bf16) : sProp 𝕄 :=
  iprop(∃ f : S1024x512.Idx → F .bf16, ⌜∀ i ∈ rows o n, f i = v i⌝ ∗ (aM.view.loc (c : Thread nD τ) ↦[Finset.univ \ rows (ss k c) (len k)]{fullShare} f))

/-- The place of a block's element in the accumulator, the block's first row being `o`. -/
def pt {n : ℕ} (o : ℕ) (x : (⟨2, ![n, 512]⟩ : Shape).Idx) : S1024x512.Idx := ix (o + (x (0 : Fin 2)).val) (x (1 : Fin 2))

theorem row_pt {n o : ℕ} {x : (⟨2, ![n, 512]⟩ : Shape).Idx} (h : o + (x (0 : Fin 2)).val < 1024) : row (pt o x) = o + (x (0 : Fin 2)).val :=
  Nat.mod_eq_of_lt h
theorem col_pt {n o : ℕ} {x : (⟨2, ![n, 512]⟩ : Shape).Idx} : col (pt o x) = x (1 : Fin 2) := rfl

theorem rct_emb {off : Fin 2 → ℕ} {o n : ℕ} (h : off = ![o, 0])
    (inb : ∀ a, off a + (⟨2, ![n, 512]⟩ : Shape).size a ≤ S1024x512.size a) (x : (⟨2, ![n, 512]⟩ : Shape).Idx) :
    (Rect.unit (s := S1024x512) off (⟨2, ![n, 512]⟩ : Shape).size inb).emb x = pt o x := rect_emb h inb x

/-- The rows `o ≤ r < o + n` of `v` as a vector. -/
def blk (v : S1024x512.Idx → F .bf16) (o n : ℕ) : Vec F (⟨2, ![n, 512]⟩ : Shape) .bf16 := fun x => v (pt o x)

/-- The block of rows at an offset, as a rectangle. -/
abbrev rct (off : Fin 2 → ℕ) (n : ℕ) (inb : ∀ a, off a + (⟨2, ![n, 512]⟩ : Shape).size a ≤ S1024x512.size a) : Rect S1024x512 :=
  Rect.unit (s := S1024x512) off (⟨2, ![n, 512]⟩ : Shape).size inb

theorem row_lt_of {o n : ℕ} {off : Fin 2 → ℕ} (h : off = ![o, 0]) (inb : ∀ a, off a + (⟨2, ![n, 512]⟩ : Shape).size a ≤ S1024x512.size a) : o + n ≤ 1024 := by
  subst h; exact inb (0 : Fin 2)

/-- Every place of a block is one of its rectangle's elements. -/
theorem mem_rct {o n : ℕ} {off : Fin 2 → ℕ} (h : off = ![o, 0]) (inb : ∀ a, off a + (⟨2, ![n, 512]⟩ : Shape).size a ≤ S1024x512.size a)
    {i : S1024x512.Idx} (hi : i ∈ rows o n) : ∃ x, (rct off n inb).emb x = i := by
  rw [← rect_set h inb, ← Rect.map_emb_univ, Finset.mem_map] at hi
  obtain ⟨x, -, e⟩ := hi
  exact ⟨x, e⟩

theorem emb_mem {o n : ℕ} {off : Fin 2 → ℕ} (h : off = ![o, 0]) (inb : ∀ a, off a + (⟨2, ![n, 512]⟩ : Shape).size a ≤ S1024x512.size a)
    (x : (⟨2, ![n, 512]⟩ : Shape).Idx) : pt o x ∈ rows o n := by
  have hx : (x (0 : Fin 2)).val < n := (x (0 : Fin 2)).isLt
  have := row_lt_of h inb
  rw [mem_rows, row_pt (by omega)]
  omega

/-- What lands at step `k`, element by element. -/
theorem lnd_emb (k : Fin 10) (c : Dev nD) (x : (⟨2, ![len k, 512]⟩ : Shape).Idx) :
    lnd m k (prt k c) (pt (roff k) x) = srcV m k c (pt (ss k c) x) := by
  have hx : (x (0 : Fin 2)).val < len k := (x (0 : Fin 2)).isLt
  have := roff_len k
  unfold lnd ss
  rw [prt_prt, row_pt (by omega), Nat.add_sub_cancel_left]
  rfl

/-- The transfer of step `k` out of the accumulator, landing in the reduction's buffer. -/
theorem wp_start_rs (k : Fin 10) (hk0 : k ≠ 0) (hk : k.val < 5) (c n : Dev nD) (hn : n = prt k c) (nn : ℕ) (hl : len k = nn) {offS offD : Fin 2 → ℕ}
    (hoS : offS = ![ss k c, 0]) (hoD : offD = ![roff k, 0]) {inbS : ∀ a, offS a + (⟨2, ![nn, 512]⟩ : Shape).size a ≤ S1024x512.size a}
    {inbD : ∀ a, offD a + (⟨2, ![nn, 512]⟩ : Shape).size a ≤ S1024x512.size a}
    {h1 : ∀ a, (rct offS nn inbS).stride a = 1} {h2 : ∀ a, (rct offD nn inbD).stride a = 1}
    {hsc : (dM.slice (rct offD nn inbD) h2 : Memref sig (Dev.tc n : Thread nD τ).2.kind .vmem _ .bf16).view.ref.isScScratch = false} {sS sR : DmaSem sig} (hsS : sS = snd k) (hsR : sR = rcv k)
    {hsrc : (aM.slice (rct offS nn inbS) h1).view.WordExact} {hdst : (dM.slice (rct offD nn inbD) h2).view.WordExact}
    {hsem : DmaTarget.Typed .vmem (.dma sR) (.remote (Dev.tc n : Thread nD τ) (dM.slice (rct offD nn inbD) h2) (.dma sS) hsc)}
    {α : Type} {Q : α → sProp 𝕄} {kk : PUnit → Prog (TpuEff nD τ sig (Elt F) Λ₀ .tc) α} (o l : ℕ) (v : S1024x512.Idx → F .bf16)
    (hv : v = srcV m k c) (hsub : rows (ss k c) (len k) ⊆ rows o l) :
    iprop(recs m K ∗ stepR k c ∗ owe c (Ow c (10 - k.val)) ∗ accI c o l v ∗ (∃ g, dstP k (prt k c) g))
      ⊢ iprop(((stepR₁ k c ∗ owe c (Ow c (9 - k.val)) ∗ accH k c o l v) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (aM.slice (rct offS nn inbS) h1) (.remote (Dev.tc n : Thread nD τ) (dM.slice (rct offD nn inbD) h2) (.dma sS) hsc) (.dma sR) hsrc hdst hsem) kk) Q) := by
  subst hl hn hv
  have eS : (aM.slice (rct offS (len k) inbS) h1).view.set = rows (ss k c) (len k) :=
    (View.set_slice_whole cc0_scratch0 _).trans (rect_set hoS inbS)
  have eD : (dM.slice (rct offD (len k) inbD) h2).view.set = rows (roff k) (len k) :=
    (View.set_slice_whole cc0_scratch3 _).trans (rect_set hoD inbD)
  unfold accI accH
  iintro ⟨#HR, Hst, HO, ⟨%f, %hf, Ha⟩, ⟨%g, Hg⟩⟩ Hk
  ihave Hsp := (pointsTo_split_subset (Finset.subset_univ (rows (ss k c) (len k)))).1 $$ Ha
  icases Hsp with ⟨Hs, Hr⟩
  ihave Hd := (Entails.of_eq (show dstP k (prt k c) g = _ from if_pos hk)) $$ Hg
  iapply (wp_start m K k c (prt k c) rfl hsS hsR (src := aM.slice (rct offS (len k) inbS) h1) (dst := dM.slice (rct offD (len k) inbD) h2) f g rfl ?_ ?_) $$ [Hst HO Hs Hd]
  · rw [eS]
    refine Entails.of_eq (Eq.trans (pointsTo_congr fun i hi => hf i (hsub hi)) ?_)
    unfold srcP
    rw [if_neg hk0]
  · rw [eD]
    refine Entails.of_eq (Eq.trans (pointsTo_congr (g := lnd m k (prt k c)) fun i hi => ?_) ?_)
    · obtain ⟨x, rfl⟩ := mem_rct hoD inbD hi
      refine (write_slice cc0_scratch3 (rct offD (len k) inbD) g _ x).trans ?_
      refine (read_slice cc0_scratch0 (rct offS (len k) inbS) f x).trans ?_
      rw [rct_emb hoS inbS, rct_emb hoD inbD, lnd_emb]
      exact hf _ (hsub (emb_mem hoS inbS x))
    · unfold dstP
      rw [if_pos hk]
  · isplitr; · iexact HR
    isplitl [Hst]; · iexact Hst
    isplitl [HO]; · iexact HO
    isplitl [Hs]
    · rw [eS]; iexact Hs
    · rw [eD]; iexact Hd
  iintro ⟨Hst, HO⟩
  iapply Hk
  isplitl [Hst]; · iexact Hst
  isplitl [HO]; · iexact HO
  iexists f
  isplitr; · ipureintro; exact hf
  iexact Hr

/-- The transfer of step `k` out of the accumulator, landing in the gathering's buffer. -/
theorem wp_start_ag (k : Fin 10) (hk0 : k ≠ 0) (hk : ¬ k.val < 5) (c n : Dev nD) (hn : n = prt k c) (nn : ℕ) (hl : len k = nn) {offS offD : Fin 2 → ℕ}
    (hoS : offS = ![ss k c, 0]) (hoD : offD = ![roff k, 0]) {inbS : ∀ a, offS a + (⟨2, ![nn, 512]⟩ : Shape).size a ≤ S1024x512.size a}
    {inbD : ∀ a, offD a + (⟨2, ![nn, 512]⟩ : Shape).size a ≤ S1024x512.size a}
    {h1 : ∀ a, (rct offS nn inbS).stride a = 1} {h2 : ∀ a, (rct offD nn inbD).stride a = 1}
    {hsc : (gM.slice (rct offD nn inbD) h2 : Memref sig (Dev.tc n : Thread nD τ).2.kind .vmem _ .bf16).view.ref.isScScratch = false} {sS sR : DmaSem sig} (hsS : sS = snd k) (hsR : sR = rcv k)
    {hsrc : (aM.slice (rct offS nn inbS) h1).view.WordExact} {hdst : (gM.slice (rct offD nn inbD) h2).view.WordExact}
    {hsem : DmaTarget.Typed .vmem (.dma sR) (.remote (Dev.tc n : Thread nD τ) (gM.slice (rct offD nn inbD) h2) (.dma sS) hsc)}
    {α : Type} {Q : α → sProp 𝕄} {kk : PUnit → Prog (TpuEff nD τ sig (Elt F) Λ₀ .tc) α} (o l : ℕ) (v : S1024x512.Idx → F .bf16)
    (hv : v = srcV m k c) (hsub : rows (ss k c) (len k) ⊆ rows o l) :
    iprop(recs m K ∗ stepR k c ∗ owe c (Ow c (10 - k.val)) ∗ accI c o l v ∗ (∃ g, dstP k (prt k c) g))
      ⊢ iprop(((stepR₁ k c ∗ owe c (Ow c (9 - k.val)) ∗ accH k c o l v) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (aM.slice (rct offS nn inbS) h1) (.remote (Dev.tc n : Thread nD τ) (gM.slice (rct offD nn inbD) h2) (.dma sS) hsc) (.dma sR) hsrc hdst hsem) kk) Q) := by
  subst hl hn hv
  have eS : (aM.slice (rct offS (len k) inbS) h1).view.set = rows (ss k c) (len k) :=
    (View.set_slice_whole cc0_scratch0 _).trans (rect_set hoS inbS)
  have eD : (gM.slice (rct offD (len k) inbD) h2).view.set = rows (roff k) (len k) :=
    (View.set_slice_whole cc0_scratch4 _).trans (rect_set hoD inbD)
  unfold accI accH
  iintro ⟨#HR, Hst, HO, ⟨%f, %hf, Ha⟩, ⟨%g, Hg⟩⟩ Hk
  ihave Hsp := (pointsTo_split_subset (Finset.subset_univ (rows (ss k c) (len k)))).1 $$ Ha
  icases Hsp with ⟨Hs, Hr⟩
  ihave Hd := (Entails.of_eq (show dstP k (prt k c) g = _ from if_neg hk)) $$ Hg
  iapply (wp_start m K k c (prt k c) rfl hsS hsR (src := aM.slice (rct offS (len k) inbS) h1) (dst := gM.slice (rct offD (len k) inbD) h2) f g rfl ?_ ?_) $$ [Hst HO Hs Hd]
  · rw [eS]
    refine Entails.of_eq (Eq.trans (pointsTo_congr fun i hi => hf i (hsub hi)) ?_)
    unfold srcP
    rw [if_neg hk0]
  · rw [eD]
    refine Entails.of_eq (Eq.trans (pointsTo_congr (g := lnd m k (prt k c)) fun i hi => ?_) ?_)
    · obtain ⟨x, rfl⟩ := mem_rct hoD inbD hi
      refine (write_slice cc0_scratch4 (rct offD (len k) inbD) g _ x).trans ?_
      refine (read_slice cc0_scratch0 (rct offS (len k) inbS) f x).trans ?_
      rw [rct_emb hoS inbS, rct_emb hoD inbD, lnd_emb]
      exact hf _ (hsub (emb_mem hoS inbS x))
    · unfold dstP
      rw [if_neg hk]
  · isplitr; · iexact HR
    isplitl [Hst]; · iexact Hst
    isplitl [HO]; · iexact HO
    isplitl [Hs]
    · rw [eS]; iexact Hs
    · rw [eD]; iexact Hd
  iintro ⟨Hst, HO⟩
  iapply Hk
  isplitl [Hst]; · iexact Hst
  isplitl [HO]; · iexact HO
  iexists f
  isplitr; · ipureintro; exact hf
  iexact Hr

/-- The wait that gives the source back to the accumulator. -/
theorem wp_back_acc (k : Fin 10) (hk0 : k ≠ 0) (c : Dev nD) {s s' : Shape} {e e' : EltTy} {sS : DmaSem sig} (hsS : sS = snd k)
    {src : Memref sig .tc .vmem s' e'} {dst : Memref sig .tc .vmem s e} {hsrc : src.view.WordExact} {hdst : dst.view.WordExact}
    {α : Type} {Q : α → sProp 𝕄} {kk : PUnit → Prog (TpuEff nD τ sig (Elt F) Λ₀ .tc) α} (o l : ℕ) (v : S1024x512.Idx → F .bf16)
    (hv : v = srcV m k c) (hN : dst.view.dmaCredit = N k) :
    iprop(recs m K ∗ levAts L lv ∗ stepR₁ k c ∗ owe c (Ow c (9 - k.val)) ∗ accH k c o l v)
      ⊢ iprop(((stepR₂ k c ∗ owe c (Ow c (9 - k.val)) ∗ accI c o l v) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hv
  unfold accI accH
  iintro ⟨#HR, #Hlev, Hst, HO, ⟨%f, %hf, Hr⟩⟩ Hk
  iapply (wp_back m K k c hsS hN) $$ [Hst HO]
  · isplitr; · iexact HR
    isplitr; · iexact Hlev
    isplitl [Hst] <;> iassumption
  iintro ⟨Hst, HO, Hs⟩
  ihave Hs' := (Entails.of_eq (show srcP m k c = _ from if_neg hk0)) $$ Hs
  ihave Ha := (pointsTo_join_subset (ℓ := aM.view.loc (c : Thread nD τ)) (I := rows (ss k c) (len k)) (Finset.subset_univ _)) $$ [Hs' Hr]
  · isplitl [Hs'] <;> iassumption
  iapply Hk
  isplitl [Hst]; · iexact Hst
  isplitl [HO]; · iexact HO
  iexists _
  isplitr [Ha]
  rotate_left
  · iexact Ha
  ipureintro
  intro i hi
  by_cases h : i ∈ rows (ss k c) (len k)
  · exact Finset.piecewise_eq_of_mem _ _ _ h
  · exact (Finset.piecewise_eq_of_notMem _ _ _ h).trans (hf i hi)

/-- A block of the accumulator loaded. -/
theorem wp_load_acc (c : Dev nD) (nn : ℕ) {off : Fin 2 → ℕ} (o' : ℕ) (ho : off = ![o', 0])
    {inb : ∀ a, off a + (⟨2, ![nn, 512]⟩ : Shape).size a ≤ S1024x512.size a} {hl : aM.view.LoadsAt (rct off nn inb).toLoadRect}
    {α : Type} {Q : α → sProp 𝕄} {kk : Vec F (⟨2, ![nn, 512]⟩ : Shape) .bf16 → Prog (TpuEff nD τ sig (Elt F) Λ₀ .tc) α} (o l : ℕ) (v : S1024x512.Idx → F .bf16)
    (hsub : rows o' nn ⊆ rows o l) :
    accI c o l v
      ⊢ iprop((accI c o l v -∗ wp frame (wpE (defs₀ (F := F)) 𝒱₀ (c : Thread nD τ) none) Set.univ (kk (blk v o' nn)) Q)
          -∗ wp frame (wpE (defs₀ (F := F)) 𝒱₀ (c : Thread nD τ) none) Set.univ (.op (.load aM (rct off nn inb).toLoadRect hl) kk) Q) := by
  unfold accI
  iintro ⟨%f, %hf, Ha⟩ Hk
  have e : aM.view.readAt (Elt F) (rct off nn inb).toLoadRect f = blk v o' nn := by
    funext x
    refine (read_slice cc0_scratch0 (rct off nn inb) f x).trans ?_
    rw [rct_emb ho inb]
    exact hf _ (hsub (emb_mem ho inb x))
  iapply (wp_load 𝒱₀ (c : Thread nD τ) none Set.univ (m := aM) (r := (rct off nn inb).toLoadRect) (Finset.subset_univ _)) $$ Ha
  iintro Ha
  rw [e]
  iapply Hk
  iexists f
  isplitr; · ipureintro; exact hf
  iexact Ha

/-- A block of the accumulator loaded, its contents not needed. -/
theorem wp_peek_acc (c : Dev nD) {r : LoadRect S1024x512} {hl : aM.view.LoadsAt r}
    {α : Type} {Q : α → sProp 𝕄} {kk : (r.shape.Idx → Elt F .bf16) → Prog (TpuEff nD τ sig (Elt F) Λ₀ .tc) α} (o l : ℕ) (v : S1024x512.Idx → F .bf16) :
    accI c o l v
      ⊢ iprop((∀ w, accI c o l v -∗ wp frame (wpE (defs₀ (F := F)) 𝒱₀ (c : Thread nD τ) none) Set.univ (kk w) Q)
          -∗ wp frame (wpE (defs₀ (F := F)) 𝒱₀ (c : Thread nD τ) none) Set.univ (.op (.load aM r hl) kk) Q) := by
  unfold accI
  iintro ⟨%f, %hf, Ha⟩ Hk
  iapply (wp_load 𝒱₀ (c : Thread nD τ) none Set.univ (m := aM) (r := r) (Finset.subset_univ _)) $$ Ha
  iintro Ha
  iapply Hk
  iexists f
  isplitr; · ipureintro; exact hf
  iexact Ha

/-- A block of the accumulator stored: it is known to hold `v'` wherever the store or what was known before says so. -/
theorem wp_store_acc (c : Dev nD) (nn : ℕ) {off : Fin 2 → ℕ} (o' : ℕ) (ho : off = ![o', 0])
    {inb : ∀ a, off a + (⟨2, ![nn, 512]⟩ : Shape).size a ≤ S1024x512.size a} {w : Vec F (⟨2, ![nn, 512]⟩ : Shape) .bf16}
    {hx : (aM.access (rct off nn inb)).Stores Finset.univ} {hm : (Finset.univ : Finset (rct off nn inb).shape.Idx) = Finset.univ ∨ ∀ a, (rct off nn inb).stride a = 1}
    {α : Type} {Q : α → sProp 𝕄} {kk : PUnit → Prog (TpuEff nD τ sig (Elt F) Λ₀ .tc) α} (o l : ℕ) (v : S1024x512.Idx → F .bf16)
    (o2 l2 : ℕ) (v' : S1024x512.Idx → F .bf16)
    (hw : ∀ x, w x = v' (pt o' x))
    (hold : ∀ i ∈ rows o2 l2, i ∉ rows o' nn → i ∈ rows o l ∧ v i = v' i) :
    accI c o l v
      ⊢ iprop((accI c o2 l2 v' -∗ wp frame (wpE (defs₀ (F := F)) 𝒱₀ (c : Thread nD τ) none) Set.univ (kk ⟨⟩) Q)
          -∗ wp frame (wpE (defs₀ (F := F)) 𝒱₀ (c : Thread nD τ) none) Set.univ (.op (.store aM (rct off nn inb) w Finset.univ hx hm) kk) Q) := by
  unfold accI
  iintro ⟨%f, %hf, Ha⟩ Hk
  iapply (wp_store 𝒱₀ (c : Thread nD τ) none Set.univ (m := aM) (r := rct off nn inb) (Mk := Finset.univ) (Finset.subset_univ _)) $$ Ha
  iintro Ha
  iapply Hk
  iexists _
  isplitr [Ha]
  rotate_left
  · iexact Ha
  ipureintro
  intro i hi
  by_cases h : i ∈ rows o' nn
  · obtain ⟨x, rfl⟩ := mem_rct ho inb h
    refine (write_slice cc0_scratch0 (rct off nn inb) f w x).trans ?_
    rw [hw x, rct_emb ho inb]
  · refine (write_slice_not cc0_scratch0 (rct off nn inb) f w (by rw [rect_set ho inb]; exact h)).trans ?_
    obtain ⟨h1, h2⟩ := hold i hi h
    exact (hf i h1).trans h2

/-- What step `k` landed, loaded. -/
theorem wp_load_rs (k : Fin 10) (hk : k.val < 5) (c : Dev nD) (nn : ℕ) (hl : len k = nn) {off : Fin 2 → ℕ} (ho : off = ![roff k, 0])
    {inb : ∀ a, off a + (⟨2, ![nn, 512]⟩ : Shape).size a ≤ S1024x512.size a} {hld : dM.view.LoadsAt (rct off nn inb).toLoadRect}
    {α : Type} {Q : α → sProp 𝕄} {kk : Vec F (⟨2, ![nn, 512]⟩ : Shape) .bf16 → Prog (TpuEff nD τ sig (Elt F) Λ₀ .tc) α} :
    dstP k c (lnd m k c)
      ⊢ iprop((dstP k c (lnd m k c) -∗ wp frame (wpE (defs₀ (F := F)) 𝒱₀ (c : Thread nD τ) none) Set.univ (kk (blk (srcV m k (prt k c)) (bs k c) nn)) Q)
          -∗ wp frame (wpE (defs₀ (F := F)) 𝒱₀ (c : Thread nD τ) none) Set.univ (.op (.load dM (rct off nn inb).toLoadRect hld) kk) Q) := by
  subst hl
  rw [show dstP k c (lnd m k c) = _ from if_pos hk]
  iintro Hd Hk
  have e : dM.view.readAt (Elt F) (rct off (len k) inb).toLoadRect (lnd m k c) = blk (srcV m k (prt k c)) (bs k c) (len k) := by
    funext x
    refine (read_slice cc0_scratch3 (rct off (len k) inb) (lnd m k c) x).trans ?_
    rw [rct_emb ho inb]
    have h := lnd_emb m k (prt k c) x
    rw [prt_prt] at h
    rw [h]
    unfold blk ss
    rw [prt_prt]
  iapply (wp_load 𝒱₀ (c : Thread nD τ) none Set.univ (m := dM) (r := (rct off (len k) inb).toLoadRect)
    (S := rows (roff k) (len k)) (by rw [← rect_set ho inb]; exact subset_of_eq (((View.set_slice dM.view (rct off (len k) inb)).symm).trans (View.set_slice_whole cc0_scratch3 _)))) $$ Hd
  iintro Hd
  rw [e]
  iapply Hk
  iexact Hd

/-- What step `k` landed, loaded. -/
theorem wp_load_ag (k : Fin 10) (hk : ¬ k.val < 5) (c : Dev nD) (nn : ℕ) (hl : len k = nn) {off : Fin 2 → ℕ} (ho : off = ![roff k, 0])
    {inb : ∀ a, off a + (⟨2, ![nn, 512]⟩ : Shape).size a ≤ S1024x512.size a} {hld : gM.view.LoadsAt (rct off nn inb).toLoadRect}
    {α : Type} {Q : α → sProp 𝕄} {kk : Vec F (⟨2, ![nn, 512]⟩ : Shape) .bf16 → Prog (TpuEff nD τ sig (Elt F) Λ₀ .tc) α} :
    dstP k c (lnd m k c)
      ⊢ iprop((dstP k c (lnd m k c) -∗ wp frame (wpE (defs₀ (F := F)) 𝒱₀ (c : Thread nD τ) none) Set.univ (kk (blk (srcV m k (prt k c)) (bs k c) nn)) Q)
          -∗ wp frame (wpE (defs₀ (F := F)) 𝒱₀ (c : Thread nD τ) none) Set.univ (.op (.load gM (rct off nn inb).toLoadRect hld) kk) Q) := by
  subst hl
  rw [show dstP k c (lnd m k c) = _ from if_neg hk]
  iintro Hd Hk
  have e : gM.view.readAt (Elt F) (rct off (len k) inb).toLoadRect (lnd m k c) = blk (srcV m k (prt k c)) (bs k c) (len k) := by
    funext x
    refine (read_slice cc0_scratch4 (rct off (len k) inb) (lnd m k c) x).trans ?_
    rw [rct_emb ho inb]
    have h := lnd_emb m k (prt k c) x
    rw [prt_prt] at h
    rw [h]
    unfold blk ss
    rw [prt_prt]
  iapply (wp_load 𝒱₀ (c : Thread nD τ) none Set.univ (m := gM) (r := (rct off (len k) inb).toLoadRect)
    (S := rows (roff k) (len k)) (by rw [← rect_set ho inb]; exact subset_of_eq (((View.set_slice gM.view (rct off (len k) inb)).symm).trans (View.set_slice_whole cc0_scratch4 _)))) $$ Hd
  iintro Hd
  rw [e]
  iapply Hk
  iexact Hd

end Cert.KernelIdeal.Run

end
-- ==== Proof.Parts1.lean ====
/-
  The first six parts of the body: the gate table, the half that is sent, the meeting at the barrier,
  the first transfer, and the half that is kept.
-/
module

public import proofs.«01_k».proof.Proof.Acc

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

theorem hz : (![0, 0] : Fin 2 → Nat) = fun _ => 0 := funext fun a => by fin_cases a <;> rfl

/-! ## The blocks of rows -/

/-- A block is the half kept at the next step and the half sent. -/
theorem halves (k : Fin 4) (c : Dev nD) :
    (kp k.succ c = kp k.castSucc c ∧ sd k.succ c = kp k.castSucc c + len (rs k.succ))
      ∨ (sd k.succ c = kp k.castSucc c ∧ kp k.succ c = kp k.castSucc c + len (rs k.succ)) := by
  revert k c; decide +kernel
theorem halves0 (c : Dev nD) : (kp 0 c = 0 ∧ sd 0 c = 512) ∨ (sd 0 c = 0 ∧ kp 0 c = 512) := by revert c; decide +kernel
theorem len_half (k : Fin 4) : len (rs k.castSucc) = 2 * len (rs k.succ) := by revert k; decide
theorem kp0_bit (c : Dev nD) : kp 0 c = 512 * bit 8 c := rfl
theorem bit_lt (b : ℕ) (c : Dev nD) : bit b c < 2 := Nat.mod_lt _ (by decide)
theorem sd0_bit (c : Dev nD) : sd 0 c = 512 * (1 - bit 8 c) := by revert c; decide +kernel

theorem rows_sub {o n o' n' : ℕ} (h1 : o ≤ o') (h2 : o' + n' ≤ o + n) : rows o' n' ⊆ rows o n := fun i hi => by
  rw [mem_rows] at hi ⊢; omega

theorem kp_sub (k : Fin 4) (c : Dev nD) : rows (kp k.succ c) (len (rs k.succ)) ⊆ rows (kp k.castSucc c) (len (rs k.castSucc)) := by
  have := halves k c; have := len_half k; exact rows_sub (by omega) (by omega)
theorem sd_sub (k : Fin 4) (c : Dev nD) : rows (sd k.succ c) (len (rs k.succ)) ⊆ rows (kp k.castSucc c) (len (rs k.castSucc)) := by
  have := halves k c; have := len_half k; exact rows_sub (by omega) (by omega)
/-- What is not in the half sent is in the half kept. -/
theorem kp_or (k : Fin 4) (c : Dev nD) {i : S1024x512.Idx} (h : i ∈ rows (kp k.castSucc c) (len (rs k.castSucc))) (h' : i ∉ rows (sd k.succ c) (len (rs k.succ))) :
    i ∈ rows (kp k.succ c) (len (rs k.succ)) := by
  have := halves k c; have := len_half k; rw [mem_rows] at *; omega

/-! ## The partial product, by its halves -/

theorem part_keep (c : Dev nD) (x : S512x512.Idx) : part m c (pt (n := 512) (kp 0 c) x) = keepV m c x := by
  have hx : (x (0 : Fin 2)).val < 512 := (x (0 : Fin 2)).isLt
  have hb := bit_lt 8 c
  have hk := kp0_bit c
  have hr : row (pt (n := 512) (kp 0 c) x) = kp 0 c + (x (0 : Fin 2)).val := row_pt (by omega)
  have e : ix5 (row (pt (n := 512) (kp 0 c) x)) (col (pt (n := 512) (kp 0 c) x)) = x := by
    funext a
    match a with
    | ⟨0, _⟩ => exact Fin.ext (by show row (pt (n := 512) (kp 0 c) x) % 512 = (x (0 : Fin 2)).val; omega)
    | ⟨1, _⟩ => rfl
  unfold part
  rw [if_pos (by omega), e]

theorem part_send (c : Dev nD) (x : S512x512.Idx) : part m c (pt (n := 512) (sd 0 c) x) = sendV m c x := by
  have hx : (x (0 : Fin 2)).val < 512 := (x (0 : Fin 2)).isLt
  have hb := bit_lt 8 c
  have hk := sd0_bit c
  have hr : row (pt (n := 512) (sd 0 c) x) = sd 0 c + (x (0 : Fin 2)).val := row_pt (by omega)
  have e : ix5 (row (pt (n := 512) (sd 0 c) x)) (col (pt (n := 512) (sd 0 c) x)) = x := by
    funext a
    match a with
    | ⟨0, _⟩ => exact Fin.ext (by show row (pt (n := 512) (sd 0 c) x) % 512 = (x (0 : Fin 2)).val; omega)
    | ⟨1, _⟩ => rfl
  unfold part
  rw [if_neg (by omega), e]

/-! ## Stores of whole buffers -/

theorem wp_store_w (c : Dev nD) {f w : S1024x128.Idx → F .f32} {hx : (wM.access (Rect.unit (s := S1024x128) ![0, 0] S1024x128.size inb_S1024x128_S1024x128_0_0)).Stores Finset.univ} {hm}
    {α : Type} {Q : α → sProp 𝕄} {kk : PUnit → Prog (TpuEff nD τ sig (Elt F) Λ₀ .tc) α} :
    (wM.view.loc (c : Thread nD τ) ↦{fullShare} f)
      ⊢ iprop(((wM.view.loc (c : Thread nD τ) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store wM (Rect.unit (s := S1024x128) ![0, 0] S1024x128.size inb_S1024x128_S1024x128_0_0) w Finset.univ hx hm) kk) Q) := by
  iintro Hw Hk
  iapply (wp_store 𝒱₀ (c : Thread nD τ) none Set.univ (m := wM) (r := Rect.unit (s := S1024x128) ![0, 0] S1024x128.size inb_S1024x128_S1024x128_0_0) (Mk := Finset.univ) (Finset.subset_univ _)) $$ Hw
  iintro Hw
  rw [show (wM.access (Rect.unit (s := S1024x128) ![0, 0] S1024x128.size inb_S1024x128_S1024x128_0_0) : View sig .tc _ _ _).write (Elt F) f w Finset.univ = w from
    Memref.write_access_unit_zero_univ (Elt F) cc0_scratch1 hz _ f w]
  iapply Hk
  iexact Hw

theorem wp_store_b (c : Dev nD) {f w : S512x512.Idx → F .bf16} {hx : (bM.access (Rect.unit (s := S512x512) ![0, 0] S512x512.size inb_S512x512_S512x512_0_0)).Stores Finset.univ} {hm}
    {α : Type} {Q : α → sProp 𝕄} {kk : PUnit → Prog (TpuEff nD τ sig (Elt F) Λ₀ .tc) α} :
    (bM.view.loc (c : Thread nD τ) ↦{fullShare} f)
      ⊢ iprop(((bM.view.loc (c : Thread nD τ) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store bM (Rect.unit (s := S512x512) ![0, 0] S512x512.size inb_S512x512_S512x512_0_0) w Finset.univ hx hm) kk) Q) := by
  iintro Hw Hk
  iapply (wp_store 𝒱₀ (c : Thread nD τ) none Set.univ (m := bM) (r := Rect.unit (s := S512x512) ![0, 0] S512x512.size inb_S512x512_S512x512_0_0) (Mk := Finset.univ) (Finset.subset_univ _)) $$ Hw
  iintro Hw
  rw [show (bM.access (Rect.unit (s := S512x512) ![0, 0] S512x512.size inb_S512x512_S512x512_0_0) : View sig .tc _ _ _).write (Elt F) f w Finset.univ = w from
    Memref.write_access_unit_zero_univ (Elt F) cc0_scratch2 hz _ f w]
  iapply Hk
  iexact Hw

theorem wp_store_o (c : Dev nD) {f w : S1024x512.Idx → F .f32} {hx : (oM.access (Rect.unit (s := S1024x512) ![0, 0] S1024x512.size inb_S1024x512_S1024x512_0_0)).Stores Finset.univ} {hm}
    {α : Type} {Q : α → sProp 𝕄} {kk : PUnit → Prog (TpuEff nD τ sig (Elt F) Λ₀ .tc) α} :
    (oM.view.loc (c : Thread nD τ) ↦{fullShare} f)
      ⊢ iprop(((oM.view.loc (c : Thread nD τ) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (Rect.unit (s := S1024x512) ![0, 0] S1024x512.size inb_S1024x512_S1024x512_0_0) w Finset.univ hx hm) kk) Q) := by
  iintro Hw Hk
  iapply (wp_store 𝒱₀ (c : Thread nD τ) none Set.univ (m := oM) (r := Rect.unit (s := S1024x512) ![0, 0] S1024x512.size inb_S1024x512_S1024x512_0_0) (Mk := Finset.univ) (Finset.subset_univ _)) $$ Hw
  iintro Hw
  rw [show (oM.access (Rect.unit (s := S1024x512) ![0, 0] S1024x512.size inb_S1024x512_S1024x512_0_0) : View sig .tc _ _ _).write (Elt F) f w Finset.univ = w from
    Memref.write_access_unit_zero_univ (Elt F) cc0_stg4_0 hz _ f w]
  iapply Hk
  iexact Hw

/-! ## The parts -/

/-- The staged arguments, as a device holds them. -/
def insP (c : Dev nD) : sProp 𝕄 :=
  iprop((xM.view.loc (c : Thread nD τ) ↦{fullShare} inX m c) ∗ (rM.view.loc (c : Thread nD τ) ↦{fullShare} inR m c)
    ∗ (iM.view.loc (c : Thread nD τ) ↦{fullShare} inI m c) ∗ (eM.view.loc (c : Thread nD τ) ↦{fullShare} inE m c))

/-- The gate table in place. -/
def wP (c : Dev nD) : sProp 𝕄 := (wM.view.loc (c : Thread nD τ) ↦{fullShare} wv m c)

/-- The gate table is computed and stored. -/
theorem part1 (c : Dev nD) {Kt : (Σ' (d0 : Dev nD) (v2 : BitVec 32), BitVec 32) → sProp 𝕄} (f : Buf (Elt F) (wM.view.loc (c : Thread nD τ))) :
    iprop(insP m c ∗ (wM.view.loc (c : Thread nD τ) ↦{fullShare} f))
      ⊢ iprop((∀ v38, (insP m c ∗ wP m c) -∗ Kt ⟨c, word c, v38⟩) -∗ wp frame (wpE (defs₀ (F := F)) 𝒱₀ (c : Thread nD τ) none) Set.univ (k0_part1 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6) Kt) := by
  simp only [k0_part1_eq_skeleton]; unfold k0_part1_skel
  simp only [semSignalWord, semWaitWord, Prog.lift, Prog.bind_op, Prog.bind_ret, Prog.pure_eq_ret, wp_deviceId]
  unfold insP wP word wv gates
  iintro ⟨⟨Hx, Hr, Hi, He⟩, Hw⟩ Hk
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  rw [show xM.view.readAt (Elt F) _ (inX m c) = inX m c from Memref.readAt_unit_zero (Elt F) cc0_stg0_0 hz _ _,
    show rM.view.readAt (Elt F) _ (inR m c) = inR m c from Memref.readAt_unit_zero (Elt F) cc0_stg1_0 hz _ _]
  iapply (wp_store_w c) $$ Hw; iintro Hw
  rw [wp_ret]; imodintro
  iapply Hk $$ %_ [Hx Hr Hi He Hw]
  isplitr [Hw]
  · isplitl [Hx]; · iexact Hx
    isplitl [Hr]; · iexact Hr
    isplitl [Hi] <;> iassumption
  iexact Hw

/-- The inputs of the half that is sent. -/
theorem part2 (c : Dev nD) (v38 : BitVec 32) {Kt : (Σ' (v43 : BitVec 32) (v46 : FVec F S512x256 .bf16) (v48 : Vec F S512x128 .f32) (v49 : IVec S512x128 32) (v66 : FVec F S512x512 .f32), FVec F S512x256 .bf16) → sProp 𝕄} :
    iprop(insP m c ∗ wP m c)
      ⊢ iprop((∀ v43, (insP m c ∗ wP m c) -∗ Kt ⟨v43, k0_pay4 (xAt (k0_off1 c) (k0_off1_inb c) (inX m c)), wAt (k0_off2 c) (k0_off2_inb c) (wv m c),
            iota .tc S512x128 32 [1] iota_S512x128_d1_w32,
            k0_pay5 (word c) (xAt (k0_off1 c) (k0_off1_inb c) (inX m c)) (wAt (k0_off2 c) (k0_off2_inb c) (wv m c)) (exp0 (inE m c)),
            k0_pay6 (word c) (xAt (k0_off1 c) (k0_off1_inb c) (inX m c)) (wAt (k0_off2 c) (k0_off2_inb c) (wv m c))⟩)
        -∗ wp frame (wpE (defs₀ (F := F)) 𝒱₀ (c : Thread nD τ) none) Set.univ (k0_part2 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v38) Kt) := by
  simp only [k0_part2_eq_skeleton]; unfold k0_part2_skel
  simp only [semSignalWord, semWaitWord, Prog.lift, Prog.bind_op, Prog.bind_ret, Prog.pure_eq_ret, wp_deviceId]
  unfold insP wP xAt wAt exp0
  iintro ⟨⟨Hx, Hr, Hi, He⟩, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := eM) (Finset.subset_univ _)) $$ He; iintro He
  rw [wp_ret]; imodintro
  iapply Hk $$ %_ [Hx Hr Hi He Hw]
  isplitr [Hw]
  · isplitl [Hx]; · iexact Hx
    isplitl [Hr]; · iexact Hr
    isplitl [Hi] <;> iassumption
  iexact Hw

/-- The half that is sent, computed. -/
theorem part3 (c : Dev nD) {Kt : FVec F S512x512 .bf16 → sProp 𝕄} (f : Buf (Elt F) (bM.view.loc (c : Thread nD τ))) :
    iprop(insP m c ∗ (bM.view.loc (c : Thread nD τ) ↦{fullShare} f))
      ⊢ iprop(((insP m c ∗ (bM.view.loc (c : Thread nD τ) ↦{fullShare} f)) -∗ Kt (sendV m c))
        -∗ wp frame (wpE (defs₀ (F := F)) 𝒱₀ (c : Thread nD τ) none) Set.univ (k0_part3 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 (word c)
          (k0_pay4 (xAt (k0_off1 c) (k0_off1_inb c) (inX m c))) (wAt (k0_off2 c) (k0_off2_inb c) (wv m c))
            (iota .tc S512x128 32 [1] iota_S512x128_d1_w32)
            (k0_pay5 (word c) (xAt (k0_off1 c) (k0_off1_inb c) (inX m c)) (wAt (k0_off2 c) (k0_off2_inb c) (wv m c)) (exp0 (inE m c)))
            (k0_pay6 (word c) (xAt (k0_off1 c) (k0_off1_inb c) (inX m c)) (wAt (k0_off2 c) (k0_off2_inb c) (wv m c)))) Kt) := by
  simp only [k0_part3_eq_skeleton]; unfold k0_part3_skel
  simp only [semSignalWord, semWaitWord, Prog.lift, Prog.bind_op, Prog.bind_ret, Prog.pure_eq_ret, wp_deviceId]
  unfold insP sendV sendHalf exp1 exp2 exp3
  iintro ⟨⟨Hx, Hr, Hi, He⟩, Hb⟩ Hk
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := bM) (Finset.subset_univ _)) $$ Hb; iintro Hb
  rw [wp_ret]; imodintro
  iapply Hk $$ [Hx Hr Hi He Hb]
  isplitr [Hb]
  · isplitl [Hx]; · iexact Hx
    isplitl [Hr]; · iexact Hr
    isplitl [Hi] <;> iassumption
  iexact Hb

/-- What a device holds for the meeting at the barrier. -/
def barR (c : Dev nD) : sProp 𝕄 :=
  iprop(atPos ER (barC c) 0 ∅ 0 ∗ cred (tallyAt (barC c) () 5)
    ∗ dutyTok ER (barC (prt (rs 0) c)) 0 (0 : Fin 5) ∗ dutyTok ER (barC (prt (rs 1) c)) 0 (1 : Fin 5) ∗ dutyTok ER (barC (prt (rs 2) c)) 0 (2 : Fin 5)
    ∗ dutyTok ER (barC (prt (rs 3) c)) 0 (3 : Fin 5) ∗ dutyTok ER (barC (prt (rs 4) c)) 0 (4 : Fin 5))

/-- Device `c`'s ten landing places. -/
def land (c : Dev nD) : sProp 𝕄 :=
  iprop((∃ f, dstP (F := F) (rs 0) c f) ∗ (∃ f, dstP (F := F) (rs 1) c f) ∗ (∃ f, dstP (F := F) (rs 2) c f) ∗ (∃ f, dstP (F := F) (rs 3) c f) ∗ (∃ f, dstP (F := F) (rs 4) c f)
    ∗ (∃ f, dstP (F := F) (Fin.rev (rs 0)) c f) ∗ (∃ f, dstP (F := F) (Fin.rev (rs 1)) c f) ∗ (∃ f, dstP (F := F) (Fin.rev (rs 2)) c f)
    ∗ (∃ f, dstP (F := F) (Fin.rev (rs 3)) c f) ∗ (∃ f, dstP (F := F) (Fin.rev (rs 4)) c f))

/-- The half that is sent is stored, and the partners meet: every device gives its landing places away and
    is given its partners'. -/
theorem part4 (c : Dev nD) {Kt : BitVec 32 → sProp 𝕄} (f : Buf (Elt F) (bM.view.loc (c : Thread nD τ))) :
    iprop(recs m K ∗ levAts L lv ∗ (bM.view.loc (c : Thread nD τ) ↦{fullShare} f) ∗ barR c ∗ owe c (Ob c 5) ∗ land (F := F) c)
      ⊢ iprop((∀ v135, ((bM.view.loc (c : Thread nD τ) ↦{fullShare} (sendV m c : S512x512.Idx → F .bf16)) ∗ semVal (barC c) 0 ∗ owe c (Ow c 10) ∗ barP 0 c ∗ barP 1 c ∗ barP 2 c ∗ barP 3 c ∗ barP 4 c) -∗ Kt v135)
        -∗ wp frame (wpE (defs₀ (F := F)) 𝒱₀ (c : Thread nD τ) none) Set.univ (k0_part4 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) (sendV m c)) Kt) := by
  simp only [k0_part4_eq_skeleton]; unfold k0_part4_skel
  simp only [semSignalWord, semWaitWord, Prog.lift, Prog.bind_op, Prog.bind_ret, Prog.pure_eq_ret, wp_deviceId]
  unfold barR land
  iintro ⟨#HR, #Hlev, Hb, ⟨HaB, HcB, Ht0, Ht1, Ht2, Ht3, Ht4⟩, HO, ⟨%a0, Ha0⟩, ⟨%a1, Ha1⟩, ⟨%a2, Ha2⟩, ⟨%a3, Ha3⟩, ⟨%a4, Ha4⟩, ⟨%b0, Hb0⟩, ⟨%b1, Hb1⟩, ⟨%b2, Hb2⟩, ⟨%b3, Hb3⟩, ⟨%b4, Hb4⟩⟩ Hk
  iapply (wp_store_b c) $$ Hb; iintro Hb
  iapply (wp_sig m K 0 c _ (dev1 c) (by decide) rfl a0 b0) $$ [HO Ht0 Ha0 Hb0]
  · isplitr; · iexact HR
    isplitl [Ht0]; · iexact Ht0
    isplitl [HO]; · iexact HO
    isplitl [Ha0] <;> iassumption
  iintro HO
  iapply (wp_sig m K 1 c _ (dev2 c) (by decide) rfl a1 b1) $$ [HO Ht1 Ha1 Hb1]
  · isplitr; · iexact HR
    isplitl [Ht1]; · iexact Ht1
    isplitl [HO]; · iexact HO
    isplitl [Ha1] <;> iassumption
  iintro HO
  iapply (wp_sig m K 2 c _ (dev3 c) (by decide) rfl a2 b2) $$ [HO Ht2 Ha2 Hb2]
  · isplitr; · iexact HR
    isplitl [Ht2]; · iexact Ht2
    isplitl [HO]; · iexact HO
    isplitl [Ha2] <;> iassumption
  iintro HO
  iapply (wp_sig m K 3 c _ (dev4 c) (by decide) rfl a3 b3) $$ [HO Ht3 Ha3 Hb3]
  · isplitr; · iexact HR
    isplitl [Ht3]; · iexact Ht3
    isplitl [HO]; · iexact HO
    isplitl [Ha3] <;> iassumption
  iintro HO
  iapply (wp_sig m K 4 c _ (dev5 c) (by decide) rfl a4 b4) $$ [HO Ht4 Ha4 Hb4]
  · isplitr; · iexact HR
    isplitl [Ht4]; · iexact Ht4
    isplitl [HO]; · iexact HO
    isplitl [Ha4] <;> iassumption
  iintro HO
  iapply (wp_bar m K c (by decide) rfl) $$ [HaB HcB HO]
  · isplitr; · iexact HR
    isplitr; · iexact Hlev
    isplitl [HaB]; · iexact HaB
    isplitl [HcB]; · iexact HcB
    iexact HO
  iintro ⟨HzB, HO, HP⟩
  rw [wp_ret]; imodintro
  iapply Hk $$ %_ [Hb HzB HO HP]
  isplitl [Hb]; · iexact Hb
  isplitl [HzB]; · iexact HzB
  isplitl [HO]; · iexact HO
  iexact HP

/-- The first transfer goes out, and the inputs of the half that is kept are read. -/
theorem part5 (c : Dev nD) (v43 : BitVec 32) {Kt : (Σ' (v145 : FVec F S512x256 .bf16) (v147 : Vec F S512x128 .f32) (v148 : IVec S512x128 32) (v181 : FVec F S512x512 .f32), BitVec 32) → sProp 𝕄} :
    iprop(recs m K ∗ insP m c ∗ wP m c ∗ (bM.view.loc (c : Thread nD τ) ↦{fullShare} (sendV m c : S512x512.Idx → F .bf16)) ∗ stepR 0 c ∗ owe c (Ow c 10) ∗ (∃ g, dstP 0 (prt 0 c) g))
      ⊢ iprop(((insP m c ∗ wP m c ∗ stepR₁ 0 c ∗ owe c (Ow c 9)) -∗ Kt ⟨k0_pay8 (xAt (k0_off3 c) (k0_off3_inb c) (inX m c)), wAt (k0_off4 c) (k0_off4_inb c) (wv m c),
            iota .tc S512x128 32 [1] iota_S512x128_d1_w32,
            k0_pay9 (word c) (xAt (k0_off3 c) (k0_off3_inb c) (inX m c)) (wAt (k0_off4 c) (k0_off4_inb c) (wv m c)) (exp0 (inE m c)) (exp1 (inE m c)), 4#32⟩)
        -∗ wp frame (wpE (defs₀ (F := F)) 𝒱₀ (c : Thread nD τ) none) Set.univ (k0_part5 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v43) Kt) := by
  simp only [k0_part5_eq_skeleton]; unfold k0_part5_skel
  simp only [semSignalWord, semWaitWord, Prog.lift, Prog.bind_op, Prog.bind_ret, Prog.pure_eq_ret, wp_deviceId]
  unfold insP wP xAt wAt exp0 exp1
  iintro ⟨#HR, ⟨Hx, Hr, Hi, He⟩, Hw, Hb, Hst, HO, ⟨%g, Hg⟩⟩ Hk
  have eD : ∀ h2, (dM.slice (rct ![0, 0] 512 inb_S1024x512_S512x512_0_0) h2).view.set = rows (roff 0) (len 0) := fun h2 =>
    (View.set_slice_whole cc0_scratch3 _).trans (rect_set rfl _)
  ihave Hd := (Entails.of_eq (show dstP 0 (prt 0 c) g = _ from if_pos (by decide))) $$ Hg
  iapply (wp_start m K 0 c _ (dev6 c) rfl rfl (src := bM) (dst := dM.slice (rct ![0, 0] 512 inb_S1024x512_S512x512_0_0) (fun _ => rfl))
    (sendV m c : S512x512.Idx → F .bf16) g rfl ?_ ?_) $$ [Hst HO Hb Hd]
  · exact Entails.of_eq (by unfold srcP; rw [if_pos rfl]; exact congrArg (fun S => pointsTo _ S _ _) (View.set_whole cc0_scratch2))
  · rw [eD, dev6 c]
    refine Entails.of_eq (Eq.trans (pointsTo_congr (g := lnd m 0 (prt 0 c)) fun i hi => ?_) ?_)
    · obtain ⟨x, rfl⟩ := mem_rct (off := ![0, 0]) (o := roff 0) (n := len 0) rfl inb_S1024x512_S512x512_0_0 hi
      refine (write_slice cc0_scratch3 (rct ![0, 0] 512 inb_S1024x512_S512x512_0_0) g _ x).trans ?_
      refine Eq.trans ?_ ((congrArg (lnd m 0 (prt 0 c)) (rct_emb (n := 512) (o := roff 0) rfl inb_S1024x512_S512x512_0_0 x)).trans (lnd_emb m 0 c x)).symm
      exact (part_send m c x).symm
    · unfold dstP
      rw [if_pos (by decide)]
  · isplitr; · iexact HR
    isplitl [Hst]; · iexact Hst
    isplitl [HO]; · iexact HO
    isplitl [Hb]
    · rw [View.set_whole]; iexact Hb
    · rw [eD, dev6 c]; iexact Hd
  iintro ⟨Hst, HO⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  rw [wp_ret]; imodintro
  iapply Hk $$ [Hx Hr Hi He Hw Hst HO]
  isplitr [Hw Hst HO]
  · isplitl [Hx]; · iexact Hx
    isplitl [Hr]; · iexact Hr
    isplitl [Hi] <;> iassumption
  isplitl [Hw]; · iexact Hw
  isplitl [Hst] <;> iassumption

/-- The half that is kept is computed and stored in the accumulator. -/
theorem part6 (c : Dev nD) (v43 : BitVec 32) {Kt : PUnit → sProp 𝕄} (f : Buf (Elt F) (aM.view.loc (c : Thread nD τ))) :
    iprop(insP m c ∗ (aM.view.loc (c : Thread nD τ) ↦{fullShare} f))
      ⊢ iprop(((insP m c ∗ accI c (kp 0 c) 512 (psum m 0 c)) -∗ Kt ⟨⟩)
        -∗ wp frame (wpE (defs₀ (F := F)) 𝒱₀ (c : Thread nD τ) none) Set.univ (k0_part6 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v43
            (k0_pay8 (xAt (k0_off3 c) (k0_off3_inb c) (inX m c))) (wAt (k0_off4 c) (k0_off4_inb c) (wv m c))
            (iota .tc S512x128 32 [1] iota_S512x128_d1_w32)
            (k0_pay9 (word c) (xAt (k0_off3 c) (k0_off3_inb c) (inX m c)) (wAt (k0_off4 c) (k0_off4_inb c) (wv m c)) (exp0 (inE m c)) (exp1 (inE m c))) 4#32) Kt) := by
  simp only [k0_part6_eq_skeleton]; unfold k0_part6_skel
  simp only [semSignalWord, semWaitWord, Prog.lift, Prog.bind_op, Prog.bind_ret, Prog.pure_eq_ret, wp_deviceId]
  unfold insP
  iintro ⟨⟨Hx, Hr, Hi, He⟩, Ha⟩ Hk
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  ihave Ha' : (accI c 0 0 (psum m 0 c)) $$ [Ha]
  · unfold accI
    iexists f
    isplitr; · ipureintro; exact fun i hi => absurd (mem_rows.mp hi) (by omega)
    iexact Ha
  iapply (wp_peek_acc c 0 0 (psum m 0 c)) $$ Ha'
  iintro %w Ha
  iapply (wp_store_acc c 512 (kp 0 c) (off5 c) 0 0 (psum m 0 c) (kp 0 c) 512 (psum m 0 c) (fun x => (part_keep m c x).symm) (fun i h h' => absurd h h')) $$ Ha
  iintro Ha
  rw [wp_ret]; imodintro
  iapply Hk $$ [Hx Hr Hi He Ha]
  isplitr [Ha]
  · isplitl [Hx]; · iexact Hx
    isplitl [Hr]; · iexact Hr
    isplitl [Hi] <;> iassumption
  iexact Ha

end Cert.KernelIdeal.Run

end
-- ==== Proof.Parts2.lean ====
/-
  The reduction: five exchanges, each of a block of the accumulator for the partner's, added to the block
  that is kept.
-/
module

public import proofs.«01_k».proof.Proof.Parts1
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

theorem ss5 (c : Dev nD) : ss 5 c = kp 4 c := by have := ss_table c; tauto
theorem ss6 (c : Dev nD) : ss 6 c = kp 3 c := by have := ss_table c; tauto
theorem ss7 (c : Dev nD) : ss 7 c = kp 2 c := by have := ss_table c; tauto
theorem ss8 (c : Dev nD) : ss 8 c = kp 1 c := by have := ss_table c; tauto
theorem ss9 (c : Dev nD) : ss 9 c = kp 0 c := by have := ss_table c; tauto

theorem last_or (c : Dev nD) {i : S1024x512.Idx} (h' : i ∉ rows (sd 0 c) 512) : i ∈ rows (kp 0 c) 512 := by
  have := halves0 c; have := row_lt i; rw [mem_rows] at *; omega

/-- After the reduction the block a device keeps holds the whole sum. -/
theorem accI_fin (c : Dev nD) : (accI c (kp 4 c) 32 (psum m 5 c) : sProp 𝕄) ⊢ accI c (kp 4 c) 32 (fin m) := by
  unfold accI
  iintro ⟨%f, %hf, Ha⟩
  iexists f
  isplitr; · ipureintro; exact fun i hi => (hf i hi).trans (fin_eq m hi).symm
  iexact Ha

/-- The first exchange completes and its block is added. -/
theorem part7 (c : Dev nD) (v43 : BitVec 32) (v135 : BitVec 32) {Kt : (Σ' (v1 : BitVec 32), BitVec 32) → sProp 𝕄} :
    iprop(recs m K ∗ levAts L lv ∗ stepR₁ 0 c ∗ owe c (Ow c 9) ∗ accI c (kp 0 c) 512 (psum m 0 c))
      ⊢ iprop((∀ v235 v245, (stepR₃ 0 c ∗ owe c (Ow c 9) ∗ srcP m 0 c ∗ dstP 0 c (lnd m 0 c) ∗ accI c (kp 0 c) 512 (psum m 1 c)) -∗ Kt ⟨v235, v245⟩)
        -∗ wp frame (wpE (defs₀ (F := F)) 𝒱₀ (c : Thread nD τ) none) Set.univ (k0_part7 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v43 v135) Kt) := by
  simp only [k0_part7_eq_skeleton]; unfold k0_part7_skel
  simp only [semSignalWord, semWaitWord, Prog.lift, Prog.bind_op, Prog.bind_ret, Prog.pure_eq_ret, wp_deviceId]
  iintro ⟨#HR, #Hlev, Hst0, HO, Ha⟩ Hk
  iapply (wp_back m K 0 c rfl rfl) $$ [Hst0 HO]
  · isplitr; · iexact HR
    isplitr; · iexact Hlev
    isplitl [Hst0]; · iexact Hst0
    iexact HO
  iintro ⟨Hst0, HO, Hb⟩
  iapply (wp_recv m K 0 c rfl rfl) $$ [Hst0 HO]
  · isplitr; · iexact HR
    isplitr; · iexact Hlev
    isplitl [Hst0]; · iexact Hst0
    iexact HO
  iintro ⟨Hst0, HO, Hg0⟩
  iapply (wp_load_acc c 512 (kp 0 c) (off5 c) (kp 0 c) 512 (psum m 0 c) (Finset.Subset.refl _)) $$ Ha; iintro Ha
  iapply (wp_load_rs m 0 (by decide) c 512 rfl rfl) $$ Hg0; iintro Hg0
  iapply (wp_peek_acc c (kp 0 c) 512 (psum m 0 c)) $$ Ha; iintro %w Ha
  iapply (wp_store_acc c 512 (kp 0 c) (off5 c) (kp 0 c) 512 (psum m 0 c) (kp 0 c) 512 (psum m 1 c)
    (fun x => by unfold k0_pay11; exact congrFun (shapeCast_self _ _) x) (fun i h h' => absurd h h')) $$ Ha; iintro Ha
  rw [wp_ret]; imodintro
  iapply Hk $$ %_ %_ [Hst0 HO Hb Hg0 Ha]
  isplitl [Hst0]; · iexact Hst0
  isplitl [HO]; · iexact HO
  isplitl [Hb]; · iexact Hb
  isplitl [Hg0]; · iexact Hg0
  iexact Ha

/-- The second exchange. -/
theorem part8 (c : Dev nD) (v235 : BitVec 32) (v245 : BitVec 32) {Kt : (Σ' (v272 : BitVec 32) (v282 : BitVec 32), BitVec 32) → sProp 𝕄} :
    iprop(recs m K ∗ levAts L lv ∗ stepR 1 c ∗ owe c (Ow c 9) ∗ accI c (kp 0 c) 512 (psum m 1 c) ∗ (∃ g, dstP 1 (prt 1 c) g))
      ⊢ iprop((∀ v272 v282 v283, (stepR₃ 1 c ∗ owe c (Ow c 8) ∗ dstP 1 c (lnd m 1 c) ∗ accI c (kp 1 c) 256 (psum m 2 c)) -∗ Kt ⟨v272, v282, v283⟩)
        -∗ wp frame (wpE (defs₀ (F := F)) 𝒱₀ (c : Thread nD τ) none) Set.univ (k0_part8 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v235 v245) Kt) := by
  simp only [k0_part8_eq_skeleton]; unfold k0_part8_skel
  simp only [semSignalWord, semWaitWord, Prog.lift, Prog.bind_op, Prog.bind_ret, Prog.pure_eq_ret, wp_deviceId]
  iintro ⟨#HR, #Hlev, Hst1, HO, Ha, Hg1⟩ Hk
  iapply (wp_start_rs m K 1 (by decide) (by decide) c _ (dev7 c) 256 rfl (off6 c) rfl rfl rfl (kp 0 c) 512 (psum m 1 c) rfl (sd_sub 0 c)) $$ [Hst1 HO Ha Hg1]
  · isplitr; · iexact HR
    isplitl [Hst1]; · iexact Hst1
    isplitl [HO]; · iexact HO
    isplitl [Ha]; · iexact Ha
    iexact Hg1
  iintro ⟨Hst1, HO, Ha⟩
  iapply (wp_back_acc m K 1 (by decide) c rfl (kp 0 c) 512 (psum m 1 c) rfl rfl) $$ [Hst1 HO Ha]
  · isplitr; · iexact HR
    isplitr; · iexact Hlev
    isplitl [Hst1]; · iexact Hst1
    isplitl [HO]; · iexact HO
    iexact Ha
  iintro ⟨Hst1, HO, Ha⟩
  iapply (wp_recv m K 1 c rfl rfl) $$ [Hst1 HO]
  · isplitr; · iexact HR
    isplitr; · iexact Hlev
    isplitl [Hst1]; · iexact Hst1
    iexact HO
  iintro ⟨Hst1, HO, Hg1⟩
  iapply (wp_load_acc c 256 (kp 1 c) (off7 c) (kp 0 c) 512 (psum m 1 c) (kp_sub 0 c)) $$ Ha; iintro Ha
  iapply (wp_load_rs m 1 (by decide) c 256 rfl rfl) $$ Hg1; iintro Hg1
  iapply (wp_peek_acc c (kp 0 c) 512 (psum m 1 c)) $$ Ha; iintro %w Ha
  iapply (wp_store_acc c 256 (kp 1 c) (off7 c) (kp 0 c) 512 (psum m 1 c) (kp 1 c) 256 (psum m 2 c)
    (fun x => by unfold k0_pay12; exact congrFun (shapeCast_self _ _) x) (fun i h h' => absurd h h')) $$ Ha; iintro Ha
  rw [wp_ret]; imodintro
  iapply Hk $$ %_ %_ %_ [Hst1 HO Hg1 Ha]
  isplitl [Hst1]; · iexact Hst1
  isplitl [HO]; · iexact HO
  isplitl [Hg1]; · iexact Hg1
  iexact Ha

/-- The third exchange. -/
theorem part9 (c : Dev nD) (v272 : BitVec 32) (v282 : BitVec 32) (v283 : BitVec 32) {Kt : (Σ' (v309 : BitVec 32) (v312 : BitVec 32) (v313 : BitVec 32), BitVec 32) → sProp 𝕄} :
    iprop(recs m K ∗ levAts L lv ∗ stepR 2 c ∗ owe c (Ow c 8) ∗ accI c (kp 1 c) 256 (psum m 2 c) ∗ (∃ g, dstP 2 (prt 2 c) g))
      ⊢ iprop((∀ v309 v312 v313 c64, (stepR₃ 2 c ∗ owe c (Ow c 7) ∗ dstP 2 c (lnd m 2 c) ∗ accI c (kp 2 c) 128 (psum m 3 c)) -∗ Kt ⟨v309, v312, v313, c64⟩)
        -∗ wp frame (wpE (defs₀ (F := F)) 𝒱₀ (c : Thread nD τ) none) Set.univ (k0_part9 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v272 v282 v283) Kt) := by
  simp only [k0_part9_eq_skeleton]; unfold k0_part9_skel
  simp only [semSignalWord, semWaitWord, Prog.lift, Prog.bind_op, Prog.bind_ret, Prog.pure_eq_ret, wp_deviceId]
  iintro ⟨#HR, #Hlev, Hst2, HO, Ha, Hg2⟩ Hk
  iapply (wp_start_rs m K 2 (by decide) (by decide) c _ (dev8 c) 128 rfl (off8 c) rfl rfl rfl (kp 1 c) 256 (psum m 2 c) rfl (sd_sub 1 c)) $$ [Hst2 HO Ha Hg2]
  · isplitr; · iexact HR
    isplitl [Hst2]; · iexact Hst2
    isplitl [HO]; · iexact HO
    isplitl [Ha]; · iexact Ha
    iexact Hg2
  iintro ⟨Hst2, HO, Ha⟩
  iapply (wp_back_acc m K 2 (by decide) c rfl (kp 1 c) 256 (psum m 2 c) rfl rfl) $$ [Hst2 HO Ha]
  · isplitr; · iexact HR
    isplitr; · iexact Hlev
    isplitl [Hst2]; · iexact Hst2
    isplitl [HO]; · iexact HO
    iexact Ha
  iintro ⟨Hst2, HO, Ha⟩
  iapply (wp_recv m K 2 c rfl rfl) $$ [Hst2 HO]
  · isplitr; · iexact HR
    isplitr; · iexact Hlev
    isplitl [Hst2]; · iexact Hst2
    iexact HO
  iintro ⟨Hst2, HO, Hg2⟩
  iapply (wp_load_acc c 128 (kp 2 c) (off9 c) (kp 1 c) 256 (psum m 2 c) (kp_sub 1 c)) $$ Ha; iintro Ha
  iapply (wp_load_rs m 2 (by decide) c 128 rfl rfl) $$ Hg2; iintro Hg2
  iapply (wp_peek_acc c (kp 1 c) 256 (psum m 2 c)) $$ Ha; iintro %w Ha
  iapply (wp_store_acc c 128 (kp 2 c) (off9 c) (kp 1 c) 256 (psum m 2 c) (kp 2 c) 128 (psum m 3 c)
    (fun x => by unfold k0_pay13; exact congrFun (shapeCast_self _ _) x) (fun i h h' => absurd h h')) $$ Ha; iintro Ha
  rw [wp_ret]; imodintro
  iapply Hk $$ %_ %_ %_ %_ [Hst2 HO Hg2 Ha]
  isplitl [Hst2]; · iexact Hst2
  isplitl [HO]; · iexact HO
  isplitl [Hg2]; · iexact Hg2
  iexact Ha

/-- The fourth exchange, up to the sum of the two blocks. -/
theorem part10 (c : Dev nD) (v282 : BitVec 32) (v309 : BitVec 32) (v312 : BitVec 32) (v313 : BitVec 32) (c64 : BitVec 32) {Kt : (Σ' (v319 : BitVec 32), FVec F S64x512 .bf16) → sProp 𝕄} :
    iprop(recs m K ∗ levAts L lv ∗ stepR 3 c ∗ owe c (Ow c 7) ∗ accI c (kp 2 c) 128 (psum m 3 c) ∗ (∃ g, dstP 3 (prt 3 c) g))
      ⊢ iprop((∀ v319, (stepR₃ 3 c ∗ owe c (Ow c 6) ∗ dstP 3 c (lnd m 3 c) ∗ accI c (kp 2 c) 128 (psum m 3 c)) -∗ Kt ⟨v319, k0_pay14 (blk (psum m 3 c) (kp 3 c) 64) (blk (srcV m 3 (prt 3 c)) (bs 3 c) 64)⟩)
        -∗ wp frame (wpE (defs₀ (F := F)) 𝒱₀ (c : Thread nD τ) none) Set.univ (k0_part10 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c v282 v309 v312 v313 c64) Kt) := by
  simp only [k0_part10_eq_skeleton]; unfold k0_part10_skel
  simp only [semSignalWord, semWaitWord, Prog.lift, Prog.bind_op, Prog.bind_ret, Prog.pure_eq_ret, wp_deviceId]
  iintro ⟨#HR, #Hlev, Hst3, HO, Ha, Hg3⟩ Hk
  iapply (wp_start_rs m K 3 (by decide) (by decide) c _ (dev9 c) 64 rfl (off10 c) rfl rfl rfl (kp 2 c) 128 (psum m 3 c) rfl (sd_sub 2 c)) $$ [Hst3 HO Ha Hg3]
  · isplitr; · iexact HR
    isplitl [Hst3]; · iexact Hst3
    isplitl [HO]; · iexact HO
    isplitl [Ha]; · iexact Ha
    iexact Hg3
  iintro ⟨Hst3, HO, Ha⟩
  iapply (wp_back_acc m K 3 (by decide) c rfl (kp 2 c) 128 (psum m 3 c) rfl rfl) $$ [Hst3 HO Ha]
  · isplitr; · iexact HR
    isplitr; · iexact Hlev
    isplitl [Hst3]; · iexact Hst3
    isplitl [HO]; · iexact HO
    iexact Ha
  iintro ⟨Hst3, HO, Ha⟩
  iapply (wp_recv m K 3 c rfl rfl) $$ [Hst3 HO]
  · isplitr; · iexact HR
    isplitr; · iexact Hlev
    isplitl [Hst3]; · iexact Hst3
    iexact HO
  iintro ⟨Hst3, HO, Hg3⟩
  iapply (wp_load_acc c 64 (kp 3 c) (off11 c) (kp 2 c) 128 (psum m 3 c) (kp_sub 2 c)) $$ Ha; iintro Ha
  iapply (wp_load_rs m 3 (by decide) c 64 rfl rfl) $$ Hg3; iintro Hg3
  iapply (wp_peek_acc c (kp 2 c) 128 (psum m 3 c)) $$ Ha; iintro %w Ha
  rw [wp_ret]; imodintro
  iapply Hk $$ %_ [Hst3 HO Hg3 Ha]
  isplitl [Hst3]; · iexact Hst3
  isplitl [HO]; · iexact HO
  isplitl [Hg3]; · iexact Hg3
  iexact Ha

/-- That sum stored, and the fifth exchange up to its landing. -/
theorem part11 (c : Dev nD) (v319 : BitVec 32) {Kt : BitVec 32 → sProp 𝕄} :
    iprop(recs m K ∗ levAts L lv ∗ stepR 4 c ∗ owe c (Ow c 6) ∗ accI c (kp 2 c) 128 (psum m 3 c) ∗ (∃ g, dstP 4 (prt 4 c) g))
      ⊢ iprop((∀ v356, (stepR₃ 4 c ∗ owe c (Ow c 5) ∗ dstP 4 c (lnd m 4 c) ∗ accI c (kp 3 c) 64 (psum m 4 c)) -∗ Kt v356)
        -∗ wp frame (wpE (defs₀ (F := F)) 𝒱₀ (c : Thread nD τ) none) Set.univ (k0_part11 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v319 (k0_pay14 (blk (psum m 3 c) (kp 3 c) 64) (blk (srcV m 3 (prt 3 c)) (bs 3 c) 64))) Kt) := by
  simp only [k0_part11_eq_skeleton]; unfold k0_part11_skel
  simp only [semSignalWord, semWaitWord, Prog.lift, Prog.bind_op, Prog.bind_ret, Prog.pure_eq_ret, wp_deviceId]
  iintro ⟨#HR, #Hlev, Hst4, HO, Ha, Hg4⟩ Hk
  iapply (wp_store_acc c 64 (kp 3 c) (off11 c) (kp 2 c) 128 (psum m 3 c) (kp 3 c) 64 (psum m 4 c)
    (fun x => by unfold k0_pay14; exact congrFun (shapeCast_self _ _) x) (fun i h h' => absurd h h')) $$ Ha; iintro Ha
  iapply (wp_start_rs m K 4 (by decide) (by decide) c _ (dev10 c) 32 rfl (off12 c) rfl rfl rfl (kp 3 c) 64 (psum m 4 c) rfl (sd_sub 3 c)) $$ [Hst4 HO Ha Hg4]
  · isplitr; · iexact HR
    isplitl [Hst4]; · iexact Hst4
    isplitl [HO]; · iexact HO
    isplitl [Ha]; · iexact Ha
    iexact Hg4
  iintro ⟨Hst4, HO, Ha⟩
  iapply (wp_back_acc m K 4 (by decide) c rfl (kp 3 c) 64 (psum m 4 c) rfl rfl) $$ [Hst4 HO Ha]
  · isplitr; · iexact HR
    isplitr; · iexact Hlev
    isplitl [Hst4]; · iexact Hst4
    isplitl [HO]; · iexact HO
    iexact Ha
  iintro ⟨Hst4, HO, Ha⟩
  iapply (wp_recv m K 4 c rfl rfl) $$ [Hst4 HO]
  · isplitr; · iexact HR
    isplitr; · iexact Hlev
    isplitl [Hst4]; · iexact Hst4
    iexact HO
  iintro ⟨Hst4, HO, Hg4⟩
  rw [wp_ret]; imodintro
  iapply Hk $$ %_ [Hst4 HO Hg4 Ha]
  isplitl [Hst4]; · iexact Hst4
  isplitl [HO]; · iexact HO
  isplitl [Hg4]; · iexact Hg4
  iexact Ha

end Cert.KernelIdeal.Run

end
-- ==== Proof.Parts3.lean ====
/-
  The gathering: the five exchanges back, each of the block a device has whole for its partner's.
-/
module

public import proofs.«01_k».proof.Proof.Parts2

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

/-- The last sum, and the first block of the gathering sent. -/
theorem part12 (c : Dev nD) (v356 : BitVec 32) {Kt : (Σ' (v391 : BitVec 32) (v392 : BitVec 32) (v405 : BitVec 32), BitVec 32) → sProp 𝕄} :
    iprop(recs m K ∗ levAts L lv ∗ dstP 4 c (lnd m 4 c) ∗ stepR 5 c ∗ owe c (Ow c 5) ∗ accI c (kp 3 c) 64 (psum m 4 c) ∗ (∃ g, dstP 5 (prt 5 c) g))
      ⊢ iprop((∀ v391 v392 v405 c0, (dstP 4 c (lnd m 4 c) ∗ stepR₂ 5 c ∗ owe c (Ow c 4) ∗ accI c (kp 4 c) 32 (fin m)) -∗ Kt ⟨v391, v392, v405, c0⟩)
        -∗ wp frame (wpE (defs₀ (F := F)) 𝒱₀ (c : Thread nD τ) none) Set.univ (k0_part12 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v356) Kt) := by
  simp only [k0_part12_eq_skeleton]; unfold k0_part12_skel
  simp only [semSignalWord, semWaitWord, Prog.lift, Prog.bind_op, Prog.bind_ret, Prog.pure_eq_ret, wp_deviceId]
  iintro ⟨#HR, #Hlev, Hg4, Hst5, HO, Ha, Hg5⟩ Hk
  iapply (wp_load_acc c 32 (kp 4 c) (off13 c) (kp 3 c) 64 (psum m 4 c) (kp_sub 3 c)) $$ Ha; iintro Ha
  iapply (wp_load_rs m 4 (by decide) c 32 rfl rfl) $$ Hg4; iintro Hg4
  iapply (wp_peek_acc c (kp 3 c) 64 (psum m 4 c)) $$ Ha; iintro %w Ha
  iapply (wp_store_acc c 32 (kp 4 c) (off13 c) (kp 3 c) 64 (psum m 4 c) (kp 4 c) 32 (psum m 5 c)
    (fun x => by unfold k0_pay15; exact congrFun (shapeCast_self _ _) x) (fun i h h' => absurd h h')) $$ Ha; iintro Ha
  ihave Ha := (accI_fin m c) $$ Ha
  iapply (wp_start_ag m K 5 (by decide) (by decide) c _ (dev11 c) 32 rfl ((off14 c).trans (by rw [ss5 c])) rfl rfl rfl (kp 4 c) 32 (fin m) rfl (by rw [ss5 c]; exact Finset.Subset.refl _)) $$ [Hst5 HO Ha Hg5]
  · isplitr; · iexact HR
    isplitl [Hst5]; · iexact Hst5
    isplitl [HO]; · iexact HO
    isplitl [Ha]; · iexact Ha
    iexact Hg5
  iintro ⟨Hst5, HO, Ha⟩
  iapply (wp_back_acc m K 5 (by decide) c rfl (kp 4 c) 32 (fin m) rfl rfl) $$ [Hst5 HO Ha]
  · isplitr; · iexact HR
    isplitr; · iexact Hlev
    isplitl [Hst5]; · iexact Hst5
    isplitl [HO]; · iexact HO
    iexact Ha
  iintro ⟨Hst5, HO, Ha⟩
  rw [wp_ret]; imodintro
  iapply Hk $$ %_ %_ %_ %_ [Hg4 Hst5 HO Ha]
  isplitl [Hg4]; · iexact Hg4
  isplitl [Hst5]; · iexact Hst5
  isplitl [HO]; · iexact HO
  iexact Ha

/-- Its partner's block received and stored, and the second sent. -/
theorem part13 (c : Dev nD) (v391 : BitVec 32) (v392 : BitVec 32) (v405 : BitVec 32) (c0 : BitVec 32) {Kt : (Σ' (v417 : BitVec 32) (v425 : BitVec 32), BitVec 32) → sProp 𝕄} :
    iprop(recs m K ∗ levAts L lv ∗ stepR₂ 5 c ∗ stepR 6 c ∗ owe c (Ow c 4) ∗ accI c (kp 4 c) 32 (fin m) ∗ (∃ g, dstP 6 (prt 6 c) g))
      ⊢ iprop((∀ v417 v425 v426, (stepR₃ 5 c ∗ dstP 5 c (lnd m 5 c) ∗ stepR₁ 6 c ∗ owe c (Ow c 3) ∗ accH 6 c (kp 3 c) 64 (fin m)) -∗ Kt ⟨v417, v425, v426⟩)
        -∗ wp frame (wpE (defs₀ (F := F)) 𝒱₀ (c : Thread nD τ) none) Set.univ (k0_part13 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v391 v392 v405 c0) Kt) := by
  simp only [k0_part13_eq_skeleton]; unfold k0_part13_skel
  simp only [semSignalWord, semWaitWord, Prog.lift, Prog.bind_op, Prog.bind_ret, Prog.pure_eq_ret, wp_deviceId]
  iintro ⟨#HR, #Hlev, Hst5, Hst6, HO, Ha, Hg6⟩ Hk
  iapply (wp_recv m K 5 c rfl rfl) $$ [Hst5 HO]
  · isplitr; · iexact HR
    isplitr; · iexact Hlev
    isplitl [Hst5]; · iexact Hst5
    iexact HO
  iintro ⟨Hst5, HO, Hg5⟩
  iapply (wp_load_ag m 5 (by decide) c 32 rfl rfl) $$ Hg5; iintro Hg5
  iapply (wp_peek_acc c (kp 4 c) 32 (fin m)) $$ Ha; iintro %w Ha
  iapply (wp_store_acc c 32 (sd 4 c) (off15 c) (kp 4 c) 32 (fin m) (kp 3 c) 64 (fin m)
    (fun x => by unfold k0_pay16; exact congrFun (shapeCast_self _ _) x) (fun i h h' => ⟨kp_or 3 c h h', rfl⟩)) $$ Ha; iintro Ha
  iapply (wp_start_ag m K 6 (by decide) (by decide) c _ (dev12 c) 64 rfl ((off16 c).trans (by rw [ss6 c])) rfl rfl rfl (kp 3 c) 64 (fin m) rfl (by rw [ss6 c]; exact Finset.Subset.refl _)) $$ [Hst6 HO Ha Hg6]
  · isplitr; · iexact HR
    isplitl [Hst6]; · iexact Hst6
    isplitl [HO]; · iexact HO
    isplitl [Ha]; · iexact Ha
    iexact Hg6
  iintro ⟨Hst6, HO, Ha⟩
  rw [wp_ret]; imodintro
  iapply Hk $$ %_ %_ %_ [Hst5 Hg5 Hst6 HO Ha]
  isplitl [Hst5]; · iexact Hst5
  isplitl [Hg5]; · iexact Hg5
  isplitl [Hst6]; · iexact Hst6
  isplitl [HO]; · iexact HO
  iexact Ha

/-- The second received and stored, and the third sent. -/
theorem part14 (c : Dev nD) (v417 : BitVec 32) (v425 : BitVec 32) (v426 : BitVec 32) {Kt : (Σ' (v451 : BitVec 32) (v459 : BitVec 32), BitVec 32) → sProp 𝕄} :
    iprop(recs m K ∗ levAts L lv ∗ stepR₁ 6 c ∗ stepR 7 c ∗ owe c (Ow c 3) ∗ accH 6 c (kp 3 c) 64 (fin m) ∗ (∃ g, dstP 7 (prt 7 c) g))
      ⊢ iprop((∀ v451 v459 v460, (stepR₃ 6 c ∗ dstP 6 c (lnd m 6 c) ∗ stepR₁ 7 c ∗ owe c (Ow c 2) ∗ accH 7 c (kp 2 c) 128 (fin m)) -∗ Kt ⟨v451, v459, v460⟩)
        -∗ wp frame (wpE (defs₀ (F := F)) 𝒱₀ (c : Thread nD τ) none) Set.univ (k0_part14 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v417 v425 v426) Kt) := by
  simp only [k0_part14_eq_skeleton]; unfold k0_part14_skel
  simp only [semSignalWord, semWaitWord, Prog.lift, Prog.bind_op, Prog.bind_ret, Prog.pure_eq_ret, wp_deviceId]
  iintro ⟨#HR, #Hlev, Hst6, Hst7, HO, Ha, Hg7⟩ Hk
  iapply (wp_back_acc m K 6 (by decide) c rfl (kp 3 c) 64 (fin m) rfl rfl) $$ [Hst6 HO Ha]
  · isplitr; · iexact HR
    isplitr; · iexact Hlev
    isplitl [Hst6]; · iexact Hst6
    isplitl [HO]; · iexact HO
    iexact Ha
  iintro ⟨Hst6, HO, Ha⟩
  iapply (wp_recv m K 6 c rfl rfl) $$ [Hst6 HO]
  · isplitr; · iexact HR
    isplitr; · iexact Hlev
    isplitl [Hst6]; · iexact Hst6
    iexact HO
  iintro ⟨Hst6, HO, Hg6⟩
  iapply (wp_load_ag m 6 (by decide) c 64 rfl rfl) $$ Hg6; iintro Hg6
  iapply (wp_peek_acc c (kp 3 c) 64 (fin m)) $$ Ha; iintro %w Ha
  iapply (wp_store_acc c 64 (sd 3 c) (off17 c) (kp 3 c) 64 (fin m) (kp 2 c) 128 (fin m)
    (fun x => by unfold k0_pay17; exact congrFun (shapeCast_self _ _) x) (fun i h h' => ⟨kp_or 2 c h h', rfl⟩)) $$ Ha; iintro Ha
  iapply (wp_start_ag m K 7 (by decide) (by decide) c _ (dev13 c) 128 rfl ((off18 c).trans (by rw [ss7 c])) rfl rfl rfl (kp 2 c) 128 (fin m) rfl (by rw [ss7 c]; exact Finset.Subset.refl _)) $$ [Hst7 HO Ha Hg7]
  · isplitr; · iexact HR
    isplitl [Hst7]; · iexact Hst7
    isplitl [HO]; · iexact HO
    isplitl [Ha]; · iexact Ha
    iexact Hg7
  iintro ⟨Hst7, HO, Ha⟩
  rw [wp_ret]; imodintro
  iapply Hk $$ %_ %_ %_ [Hst6 Hg6 Hst7 HO Ha]
  isplitl [Hst6]; · iexact Hst6
  isplitl [Hg6]; · iexact Hg6
  isplitl [Hst7]; · iexact Hst7
  isplitl [HO]; · iexact HO
  iexact Ha

/-- The third received and stored. -/
theorem part15 (c : Dev nD) (v451 : BitVec 32) (v459 : BitVec 32) (v460 : BitVec 32) {Kt : (Σ' (v485 : BitVec 32) (v493 : BitVec 32), BitVec 32) → sProp 𝕄} :
    iprop(recs m K ∗ levAts L lv ∗ stepR₁ 7 c ∗ owe c (Ow c 2) ∗ accH 7 c (kp 2 c) 128 (fin m))
      ⊢ iprop((∀ v485 v493 v494, (stepR₃ 7 c ∗ dstP 7 c (lnd m 7 c) ∗ owe c (Ow c 2) ∗ accI c (kp 1 c) 256 (fin m)) -∗ Kt ⟨v485, v493, v494⟩)
        -∗ wp frame (wpE (defs₀ (F := F)) 𝒱₀ (c : Thread nD τ) none) Set.univ (k0_part15 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v451 v459 v460) Kt) := by
  simp only [k0_part15_eq_skeleton]; unfold k0_part15_skel
  simp only [semSignalWord, semWaitWord, Prog.lift, Prog.bind_op, Prog.bind_ret, Prog.pure_eq_ret, wp_deviceId]
  iintro ⟨#HR, #Hlev, Hst7, HO, Ha⟩ Hk
  iapply (wp_back_acc m K 7 (by decide) c rfl (kp 2 c) 128 (fin m) rfl rfl) $$ [Hst7 HO Ha]
  · isplitr; · iexact HR
    isplitr; · iexact Hlev
    isplitl [Hst7]; · iexact Hst7
    isplitl [HO]; · iexact HO
    iexact Ha
  iintro ⟨Hst7, HO, Ha⟩
  iapply (wp_recv m K 7 c rfl rfl) $$ [Hst7 HO]
  · isplitr; · iexact HR
    isplitr; · iexact Hlev
    isplitl [Hst7]; · iexact Hst7
    iexact HO
  iintro ⟨Hst7, HO, Hg7⟩
  iapply (wp_load_ag m 7 (by decide) c 128 rfl rfl) $$ Hg7; iintro Hg7
  iapply (wp_peek_acc c (kp 2 c) 128 (fin m)) $$ Ha; iintro %w Ha
  iapply (wp_store_acc c 128 (sd 2 c) (off19 c) (kp 2 c) 128 (fin m) (kp 1 c) 256 (fin m)
    (fun x => by unfold k0_pay18; exact congrFun (shapeCast_self _ _) x) (fun i h h' => ⟨kp_or 1 c h h', rfl⟩)) $$ Ha; iintro Ha
  rw [wp_ret]; imodintro
  iapply Hk $$ %_ %_ %_ [Hst7 Hg7 HO Ha]
  isplitl [Hst7]; · iexact Hst7
  isplitl [Hg7]; · iexact Hg7
  isplitl [HO]; · iexact HO
  iexact Ha

/-- The fourth exchange of the gathering. -/
theorem part16 (c : Dev nD) (v485 : BitVec 32) (v493 : BitVec 32) (v494 : BitVec 32) {Kt : (Σ' (v519 : BitVec 32) (v527 : BitVec 32), BitVec 32) → sProp 𝕄} :
    iprop(recs m K ∗ levAts L lv ∗ stepR 8 c ∗ owe c (Ow c 2) ∗ accI c (kp 1 c) 256 (fin m) ∗ (∃ g, dstP 8 (prt 8 c) g))
      ⊢ iprop((∀ v519 v527 v529, (stepR₃ 8 c ∗ dstP 8 c (lnd m 8 c) ∗ owe c (Ow c 1) ∗ accI c (kp 0 c) 512 (fin m)) -∗ Kt ⟨v519, v527, v529⟩)
        -∗ wp frame (wpE (defs₀ (F := F)) 𝒱₀ (c : Thread nD τ) none) Set.univ (k0_part16 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6 c (word c) v485 v493 v494) Kt) := by
  simp only [k0_part16_eq_skeleton]; unfold k0_part16_skel
  simp only [semSignalWord, semWaitWord, Prog.lift, Prog.bind_op, Prog.bind_ret, Prog.pure_eq_ret, wp_deviceId]
  iintro ⟨#HR, #Hlev, Hst8, HO, Ha, Hg8⟩ Hk
  iapply (wp_start_ag m K 8 (by decide) (by decide) c _ (dev14 c) 256 rfl ((off20 c).trans (by rw [ss8 c])) rfl rfl rfl (kp 1 c) 256 (fin m) rfl (by rw [ss8 c]; exact Finset.Subset.refl _)) $$ [Hst8 HO Ha Hg8]
  · isplitr; · iexact HR
    isplitl [Hst8]; · iexact Hst8
    isplitl [HO]; · iexact HO
    isplitl [Ha]; · iexact Ha
    iexact Hg8
  iintro ⟨Hst8, HO, Ha⟩
  iapply (wp_back_acc m K 8 (by decide) c rfl (kp 1 c) 256 (fin m) rfl rfl) $$ [Hst8 HO Ha]
  · isplitr; · iexact HR
    isplitr; · iexact Hlev
    isplitl [Hst8]; · iexact Hst8
    isplitl [HO]; · iexact HO
    iexact Ha
  iintro ⟨Hst8, HO, Ha⟩
  iapply (wp_recv m K 8 c rfl rfl) $$ [Hst8 HO]
  · isplitr; · iexact HR
    isplitr; · iexact Hlev
    isplitl [Hst8]; · iexact Hst8
    iexact HO
  iintro ⟨Hst8, HO, Hg8⟩
  iapply (wp_load_ag m 8 (by decide) c 256 rfl rfl) $$ Hg8; iintro Hg8
  iapply (wp_peek_acc c (kp 1 c) 256 (fin m)) $$ Ha; iintro %w Ha
  iapply (wp_store_acc c 256 (sd 1 c) (off21 c) (kp 1 c) 256 (fin m) (kp 0 c) 512 (fin m)
    (fun x => by unfold k0_pay19; exact congrFun (shapeCast_self _ _) x) (fun i h h' => ⟨kp_or 0 c h h', rfl⟩)) $$ Ha; iintro Ha
  rw [wp_ret]; imodintro
  iapply Hk $$ %_ %_ %_ [Hst8 Hg8 HO Ha]
  isplitl [Hst8]; · iexact Hst8
  isplitl [Hg8]; · iexact Hg8
  isplitl [HO]; · iexact HO
  iexact Ha

end Cert.KernelIdeal.Run

end
-- ==== Proof.Body.lean ====
/-
  The whole kernel on one device: its parts in order, the landing buffers cut into landing places and put
  together again, and the last load and store.
-/
module

public import proofs.«01_k».proof.Proof.Parts3

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

/-! ## The landing buffers and their places -/

theorem sub_sdiff {S : Finset S1024x512.Idx} {o n o' n' : ℕ} (h : rows o' n' ⊆ S) (d : o + n ≤ o' ∨ o' + n' ≤ o) : rows o' n' ⊆ S \ rows o n :=
  fun i hi => Finset.mem_sdiff.mpr ⟨h hi, fun h' => by rw [mem_rows] at hi h'; omega⟩

/-- What is left of the buffer beside its five places. -/
def left_d : Finset S1024x512.Idx := ((((Finset.univ \ rows 0 512) \ rows 512 256) \ rows 768 128) \ rows 896 64) \ rows 960 32

theorem split_d (c : Dev nD) (f : S1024x512.Idx → F .bf16) :
    (dM.view.loc (c : Thread nD τ) ↦{fullShare} f : sProp 𝕄)
      ⊢ iprop(dstP 0 c f ∗ dstP 1 c f ∗ dstP 2 c f ∗ dstP 3 c f ∗ dstP 4 c f ∗ (dM.view.loc (c : Thread nD τ) ↦[left_d]{fullShare} f)) := by
  unfold left_d
  iintro H0
  ihave H := (pointsTo_split_subset (I := rows 0 512) (S := Finset.univ) (show rows 0 512 ⊆ Finset.univ from (Finset.subset_univ _))).1 $$ H0
  icases H with ⟨P0, H1⟩
  ihave H := (pointsTo_split_subset (I := rows 512 256) (S := (Finset.univ \ rows 0 512)) (show rows 512 256 ⊆ (Finset.univ \ rows 0 512) from (sub_sdiff (Finset.subset_univ _) (by decide)))).1 $$ H1
  icases H with ⟨P1, H2⟩
  ihave H := (pointsTo_split_subset (I := rows 768 128) (S := ((Finset.univ \ rows 0 512) \ rows 512 256)) (show rows 768 128 ⊆ ((Finset.univ \ rows 0 512) \ rows 512 256) from (sub_sdiff (sub_sdiff (Finset.subset_univ _) (by decide)) (by decide)))).1 $$ H2
  icases H with ⟨P2, H3⟩
  ihave H := (pointsTo_split_subset (I := rows 896 64) (S := (((Finset.univ \ rows 0 512) \ rows 512 256) \ rows 768 128)) (show rows 896 64 ⊆ (((Finset.univ \ rows 0 512) \ rows 512 256) \ rows 768 128) from (sub_sdiff (sub_sdiff (sub_sdiff (Finset.subset_univ _) (by decide)) (by decide)) (by decide)))).1 $$ H3
  icases H with ⟨P3, H4⟩
  ihave H := (pointsTo_split_subset (I := rows 960 32) (S := ((((Finset.univ \ rows 0 512) \ rows 512 256) \ rows 768 128) \ rows 896 64)) (show rows 960 32 ⊆ ((((Finset.univ \ rows 0 512) \ rows 512 256) \ rows 768 128) \ rows 896 64) from (sub_sdiff (sub_sdiff (sub_sdiff (sub_sdiff (Finset.subset_univ _) (by decide)) (by decide)) (by decide)) (by decide)))).1 $$ H4
  icases H with ⟨P4, H5⟩
  isplitl [P0]; · iapply (Entails.of_eq (show (dM.view.loc (c : Thread nD τ) ↦[rows 0 512]{fullShare} f : sProp 𝕄) = dstP 0 c f from rfl)); iexact P0
  isplitl [P1]; · iapply (Entails.of_eq (show (dM.view.loc (c : Thread nD τ) ↦[rows 512 256]{fullShare} f : sProp 𝕄) = dstP 1 c f from rfl)); iexact P1
  isplitl [P2]; · iapply (Entails.of_eq (show (dM.view.loc (c : Thread nD τ) ↦[rows 768 128]{fullShare} f : sProp 𝕄) = dstP 2 c f from rfl)); iexact P2
  isplitl [P3]; · iapply (Entails.of_eq (show (dM.view.loc (c : Thread nD τ) ↦[rows 896 64]{fullShare} f : sProp 𝕄) = dstP 3 c f from rfl)); iexact P3
  isplitl [P4]; · iapply (Entails.of_eq (show (dM.view.loc (c : Thread nD τ) ↦[rows 960 32]{fullShare} f : sProp 𝕄) = dstP 4 c f from rfl)); iexact P4
  iexact H5

theorem join_d (c : Dev nD) (f0 f1 f2 f3 f4 f5 : S1024x512.Idx → F .bf16) :
    iprop(dstP 0 c f0 ∗ dstP 1 c f1 ∗ dstP 2 c f2 ∗ dstP 3 c f3 ∗ dstP 4 c f4 ∗ (dM.view.loc (c : Thread nD τ) ↦[left_d]{fullShare} f5))
      ⊢ (iprop(∃ f, dM.view.loc (c : Thread nD τ) ↦{fullShare} f) : sProp 𝕄) := by
  unfold left_d
  iintro ⟨P0, P1, P2, P3, P4, H⟩
  ihave P4 := (Entails.of_eq (show dstP 4 c f4 = (dM.view.loc (c : Thread nD τ) ↦[rows 960 32]{fullShare} f4 : sProp 𝕄) from rfl)) $$ P4
  ihave H := (pointsTo_join_subset (ℓ := dM.view.loc (c : Thread nD τ)) (I := rows 960 32) (S := ((((Finset.univ \ rows 0 512) \ rows 512 256) \ rows 768 128) \ rows 896 64)) (show rows 960 32 ⊆ ((((Finset.univ \ rows 0 512) \ rows 512 256) \ rows 768 128) \ rows 896 64) from (sub_sdiff (sub_sdiff (sub_sdiff (sub_sdiff (Finset.subset_univ _) (by decide)) (by decide)) (by decide)) (by decide)))) $$ [P4 H]
  · isplitl [P4] <;> iassumption
  ihave P3 := (Entails.of_eq (show dstP 3 c f3 = (dM.view.loc (c : Thread nD τ) ↦[rows 896 64]{fullShare} f3 : sProp 𝕄) from rfl)) $$ P3
  ihave H := (pointsTo_join_subset (ℓ := dM.view.loc (c : Thread nD τ)) (I := rows 896 64) (S := (((Finset.univ \ rows 0 512) \ rows 512 256) \ rows 768 128)) (show rows 896 64 ⊆ (((Finset.univ \ rows 0 512) \ rows 512 256) \ rows 768 128) from (sub_sdiff (sub_sdiff (sub_sdiff (Finset.subset_univ _) (by decide)) (by decide)) (by decide)))) $$ [P3 H]
  · isplitl [P3] <;> iassumption
  ihave P2 := (Entails.of_eq (show dstP 2 c f2 = (dM.view.loc (c : Thread nD τ) ↦[rows 768 128]{fullShare} f2 : sProp 𝕄) from rfl)) $$ P2
  ihave H := (pointsTo_join_subset (ℓ := dM.view.loc (c : Thread nD τ)) (I := rows 768 128) (S := ((Finset.univ \ rows 0 512) \ rows 512 256)) (show rows 768 128 ⊆ ((Finset.univ \ rows 0 512) \ rows 512 256) from (sub_sdiff (sub_sdiff (Finset.subset_univ _) (by decide)) (by decide)))) $$ [P2 H]
  · isplitl [P2] <;> iassumption
  ihave P1 := (Entails.of_eq (show dstP 1 c f1 = (dM.view.loc (c : Thread nD τ) ↦[rows 512 256]{fullShare} f1 : sProp 𝕄) from rfl)) $$ P1
  ihave H := (pointsTo_join_subset (ℓ := dM.view.loc (c : Thread nD τ)) (I := rows 512 256) (S := (Finset.univ \ rows 0 512)) (show rows 512 256 ⊆ (Finset.univ \ rows 0 512) from (sub_sdiff (Finset.subset_univ _) (by decide)))) $$ [P1 H]
  · isplitl [P1] <;> iassumption
  ihave P0 := (Entails.of_eq (show dstP 0 c f0 = (dM.view.loc (c : Thread nD τ) ↦[rows 0 512]{fullShare} f0 : sProp 𝕄) from rfl)) $$ P0
  ihave H := (pointsTo_join_subset (ℓ := dM.view.loc (c : Thread nD τ)) (I := rows 0 512) (S := Finset.univ) (show rows 0 512 ⊆ Finset.univ from (Finset.subset_univ _))) $$ [P0 H]
  · isplitl [P0] <;> iassumption
  iexists _; iexact H

/-- What is left of the buffer beside its five places. -/
def left_g : Finset S1024x512.Idx := ((((Finset.univ \ rows 0 32) \ rows 32 64) \ rows 96 128) \ rows 224 256) \ rows 480 512

theorem split_g (c : Dev nD) (f : S1024x512.Idx → F .bf16) :
    (gM.view.loc (c : Thread nD τ) ↦{fullShare} f : sProp 𝕄)
      ⊢ iprop(dstP 5 c f ∗ dstP 6 c f ∗ dstP 7 c f ∗ dstP 8 c f ∗ dstP 9 c f ∗ (gM.view.loc (c : Thread nD τ) ↦[left_g]{fullShare} f)) := by
  unfold left_g
  iintro H0
  ihave H := (pointsTo_split_subset (I := rows 0 32) (S := Finset.univ) (show rows 0 32 ⊆ Finset.univ from (Finset.subset_univ _))).1 $$ H0
  icases H with ⟨P0, H1⟩
  ihave H := (pointsTo_split_subset (I := rows 32 64) (S := (Finset.univ \ rows 0 32)) (show rows 32 64 ⊆ (Finset.univ \ rows 0 32) from (sub_sdiff (Finset.subset_univ _) (by decide)))).1 $$ H1
  icases H with ⟨P1, H2⟩
  ihave H := (pointsTo_split_subset (I := rows 96 128) (S := ((Finset.univ \ rows 0 32) \ rows 32 64)) (show rows 96 128 ⊆ ((Finset.univ \ rows 0 32) \ rows 32 64) from (sub_sdiff (sub_sdiff (Finset.subset_univ _) (by decide)) (by decide)))).1 $$ H2
  icases H with ⟨P2, H3⟩
  ihave H := (pointsTo_split_subset (I := rows 224 256) (S := (((Finset.univ \ rows 0 32) \ rows 32 64) \ rows 96 128)) (show rows 224 256 ⊆ (((Finset.univ \ rows 0 32) \ rows 32 64) \ rows 96 128) from (sub_sdiff (sub_sdiff (sub_sdiff (Finset.subset_univ _) (by decide)) (by decide)) (by decide)))).1 $$ H3
  icases H with ⟨P3, H4⟩
  ihave H := (pointsTo_split_subset (I := rows 480 512) (S := ((((Finset.univ \ rows 0 32) \ rows 32 64) \ rows 96 128) \ rows 224 256)) (show rows 480 512 ⊆ ((((Finset.univ \ rows 0 32) \ rows 32 64) \ rows 96 128) \ rows 224 256) from (sub_sdiff (sub_sdiff (sub_sdiff (sub_sdiff (Finset.subset_univ _) (by decide)) (by decide)) (by decide)) (by decide)))).1 $$ H4
  icases H with ⟨P4, H5⟩
  isplitl [P0]; · iapply (Entails.of_eq (show (gM.view.loc (c : Thread nD τ) ↦[rows 0 32]{fullShare} f : sProp 𝕄) = dstP 5 c f from rfl)); iexact P0
  isplitl [P1]; · iapply (Entails.of_eq (show (gM.view.loc (c : Thread nD τ) ↦[rows 32 64]{fullShare} f : sProp 𝕄) = dstP 6 c f from rfl)); iexact P1
  isplitl [P2]; · iapply (Entails.of_eq (show (gM.view.loc (c : Thread nD τ) ↦[rows 96 128]{fullShare} f : sProp 𝕄) = dstP 7 c f from rfl)); iexact P2
  isplitl [P3]; · iapply (Entails.of_eq (show (gM.view.loc (c : Thread nD τ) ↦[rows 224 256]{fullShare} f : sProp 𝕄) = dstP 8 c f from rfl)); iexact P3
  isplitl [P4]; · iapply (Entails.of_eq (show (gM.view.loc (c : Thread nD τ) ↦[rows 480 512]{fullShare} f : sProp 𝕄) = dstP 9 c f from rfl)); iexact P4
  iexact H5

theorem join_g (c : Dev nD) (f0 f1 f2 f3 f4 f5 : S1024x512.Idx → F .bf16) :
    iprop(dstP 5 c f0 ∗ dstP 6 c f1 ∗ dstP 7 c f2 ∗ dstP 8 c f3 ∗ dstP 9 c f4 ∗ (gM.view.loc (c : Thread nD τ) ↦[left_g]{fullShare} f5))
      ⊢ (iprop(∃ f, gM.view.loc (c : Thread nD τ) ↦{fullShare} f) : sProp 𝕄) := by
  unfold left_g
  iintro ⟨P0, P1, P2, P3, P4, H⟩
  ihave P4 := (Entails.of_eq (show dstP 9 c f4 = (gM.view.loc (c : Thread nD τ) ↦[rows 480 512]{fullShare} f4 : sProp 𝕄) from rfl)) $$ P4
  ihave H := (pointsTo_join_subset (ℓ := gM.view.loc (c : Thread nD τ)) (I := rows 480 512) (S := ((((Finset.univ \ rows 0 32) \ rows 32 64) \ rows 96 128) \ rows 224 256)) (show rows 480 512 ⊆ ((((Finset.univ \ rows 0 32) \ rows 32 64) \ rows 96 128) \ rows 224 256) from (sub_sdiff (sub_sdiff (sub_sdiff (sub_sdiff (Finset.subset_univ _) (by decide)) (by decide)) (by decide)) (by decide)))) $$ [P4 H]
  · isplitl [P4] <;> iassumption
  ihave P3 := (Entails.of_eq (show dstP 8 c f3 = (gM.view.loc (c : Thread nD τ) ↦[rows 224 256]{fullShare} f3 : sProp 𝕄) from rfl)) $$ P3
  ihave H := (pointsTo_join_subset (ℓ := gM.view.loc (c : Thread nD τ)) (I := rows 224 256) (S := (((Finset.univ \ rows 0 32) \ rows 32 64) \ rows 96 128)) (show rows 224 256 ⊆ (((Finset.univ \ rows 0 32) \ rows 32 64) \ rows 96 128) from (sub_sdiff (sub_sdiff (sub_sdiff (Finset.subset_univ _) (by decide)) (by decide)) (by decide)))) $$ [P3 H]
  · isplitl [P3] <;> iassumption
  ihave P2 := (Entails.of_eq (show dstP 7 c f2 = (gM.view.loc (c : Thread nD τ) ↦[rows 96 128]{fullShare} f2 : sProp 𝕄) from rfl)) $$ P2
  ihave H := (pointsTo_join_subset (ℓ := gM.view.loc (c : Thread nD τ)) (I := rows 96 128) (S := ((Finset.univ \ rows 0 32) \ rows 32 64)) (show rows 96 128 ⊆ ((Finset.univ \ rows 0 32) \ rows 32 64) from (sub_sdiff (sub_sdiff (Finset.subset_univ _) (by decide)) (by decide)))) $$ [P2 H]
  · isplitl [P2] <;> iassumption
  ihave P1 := (Entails.of_eq (show dstP 6 c f1 = (gM.view.loc (c : Thread nD τ) ↦[rows 32 64]{fullShare} f1 : sProp 𝕄) from rfl)) $$ P1
  ihave H := (pointsTo_join_subset (ℓ := gM.view.loc (c : Thread nD τ)) (I := rows 32 64) (S := (Finset.univ \ rows 0 32)) (show rows 32 64 ⊆ (Finset.univ \ rows 0 32) from (sub_sdiff (Finset.subset_univ _) (by decide)))) $$ [P1 H]
  · isplitl [P1] <;> iassumption
  ihave P0 := (Entails.of_eq (show dstP 5 c f0 = (gM.view.loc (c : Thread nD τ) ↦[rows 0 32]{fullShare} f0 : sProp 𝕄) from rfl)) $$ P0
  ihave H := (pointsTo_join_subset (ℓ := gM.view.loc (c : Thread nD τ)) (I := rows 0 32) (S := Finset.univ) (show rows 0 32 ⊆ Finset.univ from (Finset.subset_univ _))) $$ [P0 H]
  · isplitl [P0] <;> iassumption
  iexists _; iexact H

/-- What a partner's unit hands over, by the two steps. -/
theorem barP_split (d : Fin 5) (c : Dev nD) :
    (barP (F := F) d c) ⊢ iprop((∃ g, dstP (rs d) (prt (rs d) c) g) ∗ ∃ g, dstP (Fin.rev (rs d)) (prt (Fin.rev (rs d)) c) g) := by
  unfold barP; rw [prt_rev]
theorem barP_0 (c : Dev nD) : (barP (F := F) 0 c) ⊢ iprop((∃ g, dstP 0 (prt 0 c) g) ∗ ∃ g, dstP 9 (prt 9 c) g) := barP_split 0 c
theorem barP_1 (c : Dev nD) : (barP (F := F) 1 c) ⊢ iprop((∃ g, dstP 1 (prt 1 c) g) ∗ ∃ g, dstP 8 (prt 8 c) g) := barP_split 1 c
theorem barP_2 (c : Dev nD) : (barP (F := F) 2 c) ⊢ iprop((∃ g, dstP 2 (prt 2 c) g) ∗ ∃ g, dstP 7 (prt 7 c) g) := barP_split 2 c
theorem barP_3 (c : Dev nD) : (barP (F := F) 3 c) ⊢ iprop((∃ g, dstP 3 (prt 3 c) g) ∗ ∃ g, dstP 6 (prt 6 c) g) := barP_split 3 c
theorem barP_4 (c : Dev nD) : (barP (F := F) 4 c) ⊢ iprop((∃ g, dstP 4 (prt 4 c) g) ∗ ∃ g, dstP 5 (prt 5 c) g) := barP_split 4 c

theorem land_intro (c : Dev nD) (f f' : S1024x512.Idx → F .bf16) :
    iprop((dstP 0 c f ∗ dstP 1 c f ∗ dstP 2 c f ∗ dstP 3 c f ∗ dstP 4 c f) ∗ dstP 5 c f' ∗ dstP 6 c f' ∗ dstP 7 c f' ∗ dstP 8 c f' ∗ dstP 9 c f') ⊢ land (F := F) c := by
  unfold land
  iintro ⟨⟨H0, H1, H2, H3, H4⟩, H5, H6, H7, H8, H9⟩
  isplitl [H0]; · iexists _; iexact H0
  isplitl [H1]; · iexists _; iexact H1
  isplitl [H2]; · iexists _; iexact H2
  isplitl [H3]; · iexists _; iexact H3
  isplitl [H4]; · iexists _; iexact H4
  isplitl [H9]; · iexists _; iexact H9
  isplitl [H8]; · iexists _; iexact H8
  isplitl [H7]; · iexists _; iexact H7
  isplitl [H6]; · iexists _; iexact H6
  iexists _; iexact H5

/-! ## The parts in order -/

set_option maxHeartbeats 1600000 in
/-- Everything up to the last store into the accumulator. -/
theorem part17 (c : Dev nD) {Kt : (Σ' (d0 : Dev nD), Vec F S512x512 .bf16) → sProp 𝕄} (fw : Buf (Elt F) (wM.view.loc (c : Thread nD τ)))
    (fb : Buf (Elt F) (bM.view.loc (c : Thread nD τ))) (fa : Buf (Elt F) (aM.view.loc (c : Thread nD τ))) :
    iprop(recs m K ∗ levAts L lv ∗ insP m c ∗ (wM.view.loc (c : Thread nD τ) ↦{fullShare} fw) ∗ (bM.view.loc (c : Thread nD τ) ↦{fullShare} fb)
        ∗ (aM.view.loc (c : Thread nD τ) ↦{fullShare} fa) ∗ barR c ∗ land c ∗ owe c (Ob c 5) ∗ stepR 0 c ∗ stepR 1 c ∗ stepR 2 c ∗ stepR 3 c ∗ stepR 4 c ∗ stepR 5 c ∗ stepR 6 c ∗ stepR 7 c ∗ stepR 8 c ∗ stepR 9 c)
      ⊢ iprop(((insP m c ∗ wP m c ∗ srcP m 0 c ∗ semVal (barC c) 0 ∗ owe c (Ow c 0) ∗ (stepR₃ 0 c ∗ dstP 0 c (lnd m 0 c)) ∗ (stepR₃ 1 c ∗ dstP 1 c (lnd m 1 c)) ∗ (stepR₃ 2 c ∗ dstP 2 c (lnd m 2 c)) ∗ (stepR₃ 3 c ∗ dstP 3 c (lnd m 3 c)) ∗ (stepR₃ 4 c ∗ dstP 4 c (lnd m 4 c)) ∗ (stepR₃ 5 c ∗ dstP 5 c (lnd m 5 c)) ∗ (stepR₃ 6 c ∗ dstP 6 c (lnd m 6 c)) ∗ (stepR₃ 7 c ∗ dstP 7 c (lnd m 7 c)) ∗ (stepR₃ 8 c ∗ dstP 8 c (lnd m 8 c)) ∗ (stepR₃ 9 c ∗ dstP 9 c (lnd m 9 c))
            ∗ accI c (kp 0 c) 512 (fin m)) -∗ Kt ⟨c, blk (srcV m 9 (prt 9 c)) (bs 9 c) 512⟩)
        -∗ wp frame (wpE (defs₀ (F := F)) 𝒱₀ (c : Thread nD τ) none) Set.univ (k0_part17 (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6) Kt) := by
  simp only [k0_part17_eq_skeleton]; unfold k0_part17_skel
  iintro ⟨#HR, #Hlev, Hi, Hw, Hb, Ha, HB, HL, HO, Hst0, Hst1, Hst2, Hst3, Hst4, Hst5, Hst6, Hst7, Hst8, Hst9⟩ Hk
  rw [wp_bind]
  iapply (part1 m c fw) $$ [Hi Hw]
  · isplitl [Hi]; · iexact Hi
    iexact Hw
  iintro %v38 ⟨Hi, Hw⟩
  try dsimp only
  rw [wp_bind]
  iapply (part2 m c v38) $$ [Hi Hw]
  · isplitl [Hi]; · iexact Hi
    iexact Hw
  iintro %v43 ⟨Hi, Hw⟩
  try dsimp only
  rw [wp_bind]
  iapply (part3 m c fb) $$ [Hi Hb]
  · isplitl [Hi]; · iexact Hi
    iexact Hb
  iintro  ⟨Hi, Hb⟩
  try dsimp only
  rw [wp_bind]
  iapply (part4 m K c fb) $$ [Hb HB HO HL]
  · isplitr; · iexact HR
    isplitr; · iexact Hlev
    isplitl [Hb]; · iexact Hb
    isplitl [HB]; · iexact HB
    isplitl [HO]; · iexact HO
    iexact HL
  iintro %v135 ⟨Hb, HzB, HO, B0, B1, B2, B3, B4⟩
  try dsimp only
  ihave B0 := (barP_0 (F := F) c) $$ B0
  icases B0 with ⟨Hg0, Hg9⟩
  ihave B1 := (barP_1 (F := F) c) $$ B1
  icases B1 with ⟨Hg1, Hg8⟩
  ihave B2 := (barP_2 (F := F) c) $$ B2
  icases B2 with ⟨Hg2, Hg7⟩
  ihave B3 := (barP_3 (F := F) c) $$ B3
  icases B3 with ⟨Hg3, Hg6⟩
  ihave B4 := (barP_4 (F := F) c) $$ B4
  icases B4 with ⟨Hg4, Hg5⟩
  rw [wp_bind]
  iapply (part5 m K c v43) $$ [Hi Hw Hb Hst0 HO Hg0]
  · isplitr; · iexact HR
    isplitl [Hi]; · iexact Hi
    isplitl [Hw]; · iexact Hw
    isplitl [Hb]; · iexact Hb
    isplitl [Hst0]; · iexact Hst0
    isplitl [HO]; · iexact HO
    iexact Hg0
  iintro  ⟨Hi, Hw, Hst0, HO⟩
  try dsimp only
  rw [wp_bind]
  iapply (part6 m c v43 fa) $$ [Hi Ha]
  · isplitl [Hi]; · iexact Hi
    iexact Ha
  iintro  ⟨Hi, Ha⟩
  try dsimp only
  rw [wp_bind]
  iapply (part7 m K c v43 v135) $$ [Hst0 HO Ha]
  · isplitr; · iexact HR
    isplitr; · iexact Hlev
    isplitl [Hst0]; · iexact Hst0
    isplitl [HO]; · iexact HO
    iexact Ha
  iintro %v235 %v245 ⟨Hst0, HO, Hb, Hg0, Ha⟩
  try dsimp only
  rw [wp_bind]
  iapply (part8 m K c v235 v245) $$ [Hst1 HO Ha Hg1]
  · isplitr; · iexact HR
    isplitr; · iexact Hlev
    isplitl [Hst1]; · iexact Hst1
    isplitl [HO]; · iexact HO
    isplitl [Ha]; · iexact Ha
    iexact Hg1
  iintro %v272 %v282 %v283 ⟨Hst1, HO, Hg1, Ha⟩
  try dsimp only
  rw [wp_bind]
  iapply (part9 m K c v272 v282 v283) $$ [Hst2 HO Ha Hg2]
  · isplitr; · iexact HR
    isplitr; · iexact Hlev
    isplitl [Hst2]; · iexact Hst2
    isplitl [HO]; · iexact HO
    isplitl [Ha]; · iexact Ha
    iexact Hg2
  iintro %v309 %v312 %v313 %c64 ⟨Hst2, HO, Hg2, Ha⟩
  try dsimp only
  rw [wp_bind]
  iapply (part10 m K c v282 v309 v312 v313 c64) $$ [Hst3 HO Ha Hg3]
  · isplitr; · iexact HR
    isplitr; · iexact Hlev
    isplitl [Hst3]; · iexact Hst3
    isplitl [HO]; · iexact HO
    isplitl [Ha]; · iexact Ha
    iexact Hg3
  iintro %v319 ⟨Hst3, HO, Hg3, Ha⟩
  try dsimp only
  rw [wp_bind]
  iapply (part11 m K c v319) $$ [Hst4 HO Ha Hg4]
  · isplitr; · iexact HR
    isplitr; · iexact Hlev
    isplitl [Hst4]; · iexact Hst4
    isplitl [HO]; · iexact HO
    isplitl [Ha]; · iexact Ha
    iexact Hg4
  iintro %v356 ⟨Hst4, HO, Hg4, Ha⟩
  try dsimp only
  rw [wp_bind]
  iapply (part12 m K c v356) $$ [Hg4 Hst5 HO Ha Hg5]
  · isplitr; · iexact HR
    isplitr; · iexact Hlev
    isplitl [Hg4]; · iexact Hg4
    isplitl [Hst5]; · iexact Hst5
    isplitl [HO]; · iexact HO
    isplitl [Ha]; · iexact Ha
    iexact Hg5
  iintro %v391 %v392 %v405 %c0 ⟨Hg4, Hst5, HO, Ha⟩
  try dsimp only
  rw [wp_bind]
  iapply (part13 m K c v391 v392 v405 c0) $$ [Hst5 Hst6 HO Ha Hg6]
  · isplitr; · iexact HR
    isplitr; · iexact Hlev
    isplitl [Hst5]; · iexact Hst5
    isplitl [Hst6]; · iexact Hst6
    isplitl [HO]; · iexact HO
    isplitl [Ha]; · iexact Ha
    iexact Hg6
  iintro %v417 %v425 %v426 ⟨Hst5, Hg5, Hst6, HO, Ha⟩
  try dsimp only
  rw [wp_bind]
  iapply (part14 m K c v417 v425 v426) $$ [Hst6 Hst7 HO Ha Hg7]
  · isplitr; · iexact HR
    isplitr; · iexact Hlev
    isplitl [Hst6]; · iexact Hst6
    isplitl [Hst7]; · iexact Hst7
    isplitl [HO]; · iexact HO
    isplitl [Ha]; · iexact Ha
    iexact Hg7
  iintro %v451 %v459 %v460 ⟨Hst6, Hg6, Hst7, HO, Ha⟩
  try dsimp only
  rw [wp_bind]
  iapply (part15 m K c v451 v459 v460) $$ [Hst7 HO Ha]
  · isplitr; · iexact HR
    isplitr; · iexact Hlev
    isplitl [Hst7]; · iexact Hst7
    isplitl [HO]; · iexact HO
    iexact Ha
  iintro %v485 %v493 %v494 ⟨Hst7, Hg7, HO, Ha⟩
  try dsimp only
  rw [wp_bind]
  iapply (part16 m K c v485 v493 v494) $$ [Hst8 HO Ha Hg8]
  · isplitr; · iexact HR
    isplitr; · iexact Hlev
    isplitl [Hst8]; · iexact Hst8
    isplitl [HO]; · iexact HO
    isplitl [Ha]; · iexact Ha
    iexact Hg8
  iintro %v519 %v527 %v529 ⟨Hst8, Hg8, HO, Ha⟩
  try dsimp only
  simp only [semSignalWord, semWaitWord, Prog.lift, Prog.bind_op, Prog.bind_ret, Prog.pure_eq_ret]
  iapply (wp_start_ag m K 9 (by decide) (by decide) c _ (dev15 c) 512 rfl ((off22 c).trans (by rw [ss9 c])) rfl rfl rfl (kp 0 c) 512 (fin m) rfl (by rw [ss9 c]; exact Finset.Subset.refl _)) $$ [Hst9 HO Ha Hg9]
  · isplitr; · iexact HR
    isplitl [Hst9]; · iexact Hst9
    isplitl [HO]; · iexact HO
    isplitl [Ha]; · iexact Ha
    iexact Hg9
  iintro ⟨Hst9, HO, Ha⟩
  iapply (wp_back_acc m K 9 (by decide) c rfl (kp 0 c) 512 (fin m) rfl rfl) $$ [Hst9 HO Ha]
  · isplitr; · iexact HR
    isplitr; · iexact Hlev
    isplitl [Hst9]; · iexact Hst9
    isplitl [HO]; · iexact HO
    iexact Ha
  iintro ⟨Hst9, HO, Ha⟩
  iapply (wp_recv m K 9 c rfl rfl) $$ [Hst9 HO]
  · isplitr; · iexact HR
    isplitr; · iexact Hlev
    isplitl [Hst9]; · iexact Hst9
    iexact HO
  iintro ⟨Hst9, HO, Hg9⟩
  iapply (wp_load_ag m 9 (by decide) c 512 rfl rfl) $$ Hg9; iintro Hg9
  iapply (wp_peek_acc c (kp 0 c) 512 (fin m)) $$ Ha; iintro %w Ha
  rw [wp_ret]; imodintro
  iapply Hk $$ [Hi Hw Hb HzB HO Hst0 Hg0 Hst1 Hg1 Hst2 Hg2 Hst3 Hg3 Hst4 Hg4 Hst5 Hg5 Hst6 Hg6 Hst7 Hg7 Hst8 Hg8 Hst9 Hg9 Ha]
  isplitl [Hi]; · iexact Hi
  isplitl [Hw]; · iexact Hw
  isplitl [Hb]; · iexact Hb
  isplitl [HzB]; · iexact HzB
  isplitl [HO]; · iexact HO
  isplitl [Hst0 Hg0]
  · isplitl [Hst0]; · iexact Hst0
    iexact Hg0
  isplitl [Hst1 Hg1]
  · isplitl [Hst1]; · iexact Hst1
    iexact Hg1
  isplitl [Hst2 Hg2]
  · isplitl [Hst2]; · iexact Hst2
    iexact Hg2
  isplitl [Hst3 Hg3]
  · isplitl [Hst3]; · iexact Hst3
    iexact Hg3
  isplitl [Hst4 Hg4]
  · isplitl [Hst4]; · iexact Hst4
    iexact Hg4
  isplitl [Hst5 Hg5]
  · isplitl [Hst5]; · iexact Hst5
    iexact Hg5
  isplitl [Hst6 Hg6]
  · isplitl [Hst6]; · iexact Hst6
    iexact Hg6
  isplitl [Hst7 Hg7]
  · isplitl [Hst7]; · iexact Hst7
    iexact Hg7
  isplitl [Hst8 Hg8]
  · isplitl [Hst8]; · iexact Hst8
    iexact Hg8
  isplitl [Hst9 Hg9]
  · isplitl [Hst9]; · iexact Hst9
    iexact Hg9
  iexact Ha

end Cert.KernelIdeal.Run

end
-- ==== Proof.Oblig.lean ====
/-
  The pipeline's proof data for the kernel's one grid point, and the body's obligation: from what the
  launch gives a device, the body runs and leaves its result staged.
-/
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The proof data -/

/-- The scratch buffers, at any contents. -/
def scr (c : Dev nD) : sProp 𝕄 :=
  iprop((∃ f, aM.view.loc (c : Thread nD τ) ↦{fullShare} f) ∗ (∃ f, wM.view.loc (c : Thread nD τ) ↦{fullShare} f) ∗ (∃ f, bM.view.loc (c : Thread nD τ) ↦{fullShare} f) ∗ (∃ f, dM.view.loc (c : Thread nD τ) ↦{fullShare} f) ∗ (∃ f, gM.view.loc (c : Thread nD τ) ↦{fullShare} f))

/-- What a device starts from. -/
def start (c : Dev nD) : sProp 𝕄 :=
  iprop((∃ K, recs m K) ∗ levAts L lv ∗ barR c ∗ stepR 0 c ∗ stepR 1 c ∗ stepR 2 c ∗ stepR 3 c ∗ stepR 4 c ∗ stepR 5 c ∗ stepR 6 c ∗ stepR 7 c ∗ stepR 8 c ∗ stepR 9 c)

/-- The counters of a device's own semaphores, all at zero. -/
def zeros (c : Dev nD) : sProp 𝕄 := iprop(stepR₃ 0 c ∗ stepR₃ 1 c ∗ stepR₃ 2 c ∗ stepR₃ 3 c ∗ stepR₃ 4 c ∗ stepR₃ 5 c ∗ stepR₃ 6 c ∗ stepR₃ 7 c ∗ stepR₃ 8 c ∗ stepR₃ 9 c)

def Φ₀ (c : Dev nD) : sProp 𝕄 := iprop(start m c ∗ scr c)
def Φ₁ (c : Dev nD) : sProp 𝕄 := iprop(scr c ∗ zeros c ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inR m c
    | ⟨2, _⟩ => inI m c
    | ⟨3, _⟩ => inE m c
    | ⟨4, _⟩ => outV m
  Φ t := match t with
    | ⟨0, _⟩ => Φ₀ m c
    | ⟨_ + 1, _⟩ => Φ₁ c
  q _ := fullShare
  owed t := match t with
    | ⟨0, _⟩ => Ob c 5
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : b.ty.Contents (Elt F)) : (((c : Thread nD τ).loc b) ↦{fullShare} X : sProp 𝕄) ⊢ stg c b X := by
  iintro H; iexists X; isplitr
  · ipureintro; rfl
  iexact H

theorem stg_elim (c : Dev nD) (b : Ref sig .tc) (X : b.ty.Contents (Elt F)) : stg c b X ⊢ (((c : Thread nD τ).loc b) ↦{fullShare} X : sProp 𝕄) := by
  iintro ⟨%f, %hf, H⟩; subst hf; iexact H

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (inX m c) ∗ stg c cc0_stg1_0 (inR m c) ∗ stg c cc0_stg2_0 (inI m c)
    ∗ stg c cc0_stg3_0 (inE m c) ∗ stg c cc0_stg4_0 (outV m))

theorem before_0 (c : Dev nD) (d) : (dats m ρ 0 c).before (0 : Fin 5) t0_0 d = inX m c := by
  unfold Dat.before; rw [if_pos (fetch0_0 t0_0)]; rfl
theorem before_1 (c : Dev nD) (d) : (dats m ρ 0 c).before (1 : Fin 5) t0_0 d = inR m c := by
  unfold Dat.before; rw [if_pos (fetch0_1 t0_0)]; rfl
theorem before_2 (c : Dev nD) (d) : (dats m ρ 0 c).before (2 : Fin 5) t0_0 d = inI m c := by
  unfold Dat.before; rw [if_pos (fetch0_2 t0_0)]; rfl
theorem before_3 (c : Dev nD) (d) : (dats m ρ 0 c).before (3 : Fin 5) t0_0 d = inE m c := by
  unfold Dat.before; rw [if_pos (fetch0_3 t0_0)]; rfl

theorem pt_zero (i : S1024x512.Idx) : pt (n := 1024) 0 i = i := by
  funext a
  match a with
  | ⟨0, _⟩ =>
    have h : (i (0 : Fin 2)).val < 1024 := (i (0 : Fin 2)).isLt
    exact Fin.ext (by show (0 + (i (0 : Fin 2)).val) % 1024 = _; rw [Nat.zero_add]; exact Nat.mod_eq_of_lt h)
  | ⟨1, _⟩ => rfl

theorem blk_whole (v : S1024x512.Idx → F .bf16) : blk v 0 1024 = v := funext fun i => congrArg v (pt_zero i)

theorem owe_intro (c : Dev nD) : (dats m ρ 0 c).owesAt () t0_0.castSucc ⊢ (owe c (Ob c 5) : sProp 𝕄) := by
  unfold Dat.owesAt Pipeline.owesWithin owe
  iintro ⟨%W, %hW, HO⟩
  iexists W; iexact HO

theorem owe_exit (c : Dev nD) : (owe c (Ow c 0) : sProp 𝕄) ⊢ (dats m ρ 0 c).owesAt () t0_0.succ := by
  unfold Dat.owesAt Pipeline.owesWithin owe
  iintro ⟨%W, HO⟩
  iexists W
  isplitr; · ipureintro; exact fun _ _ => Or.inl trivial
  iexact HO

/-! ## The body -/

set_option maxHeartbeats 1600000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (cc0_body (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6) Kt := by
  simp only [cc0_body_eq_skeleton]; unfold cc0_body_skel
  unfold bodyPre Φ₀ start scr
  iintro ⟨⟨⟨⟨⟨%K, #HR⟩, #Hlev, HB, Hst0, Hst1, Hst2, Hst3, Hst4, Hst5, Hst6, Hst7, Hst8, Hst9⟩, ⟨%fa, Ha⟩, ⟨%fw, Hw⟩, ⟨%fb, Hb⟩, ⟨%fd, Hd⟩, ⟨%fg, Hg⟩⟩, HO,
    ⟨%d0, Hx⟩, ⟨%d1, Hr⟩, ⟨%d2, Hi⟩, ⟨%d3, He⟩, ⟨%d4, Ho⟩⟩, Hk⟩
  rw [before_0, before_1, before_2, before_3]
  ihave Hx := (stg_elim c cc0_stg0_0 _) $$ Hx
  ihave Hr := (stg_elim c cc0_stg1_0 _) $$ Hr
  ihave Hi := (stg_elim c cc0_stg2_0 _) $$ Hi
  ihave He := (stg_elim c cc0_stg3_0 _) $$ He
  icases Ho with ⟨%fo, -, Ho⟩
  ihave HO := (owe_intro m ρ c) $$ HO
  ihave Hd := (split_d (F := F) c fd) $$ Hd
  icases Hd with ⟨D0, D1, D2, D3, D4, Hld⟩
  ihave Hg := (split_g (F := F) c fg) $$ Hg
  icases Hg with ⟨D5, D6, D7, D8, D9, Hlg⟩
  ihave HL := (land_intro (F := F) c fd fg) $$ [D0 D1 D2 D3 D4 D5 D6 D7 D8 D9]
  · isplitl [D0 D1 D2 D3 D4]
    · isplitl [D0]; · iexact D0
      isplitl [D1]; · iexact D1
      isplitl [D2]; · iexact D2
      isplitl [D3]; · iexact D3
      iexact D4
    isplitl [D5]; · iexact D5
    isplitl [D6]; · iexact D6
    isplitl [D7]; · iexact D7
    isplitl [D8]; · iexact D8
    iexact D9
  rw [wp_bind]
  iapply (part17 m K c fw fb fa) $$ [Hx Hr Hi He Hw Hb Ha HB HL HO Hst0 Hst1 Hst2 Hst3 Hst4 Hst5 Hst6 Hst7 Hst8 Hst9]
  · isplitr; · iexact HR
    isplitr; · iexact Hlev
    isplitl [Hx Hr Hi He]
    · unfold insP
      isplitl [Hx]; · iexact Hx
      isplitl [Hr]; · iexact Hr
      isplitl [Hi]; · iexact Hi
      iexact He
    isplitl [Hw]; · iexact Hw
    isplitl [Hb]; · iexact Hb
    isplitl [Ha]; · iexact Ha
    isplitl [HB]; · iexact HB
    isplitl [HL]; · iexact HL
    isplitl [HO]; · iexact HO
    isplitl [Hst0]; · iexact Hst0
    isplitl [Hst1]; · iexact Hst1
    isplitl [Hst2]; · iexact Hst2
    isplitl [Hst3]; · iexact Hst3
    isplitl [Hst4]; · iexact Hst4
    isplitl [Hst5]; · iexact Hst5
    isplitl [Hst6]; · iexact Hst6
    isplitl [Hst7]; · iexact Hst7
    isplitl [Hst8]; · iexact Hst8
    iexact Hst9
  iintro ⟨Hi, Hw, Hb, HzB, HO, ⟨Hst0, D0⟩, ⟨Hst1, D1⟩, ⟨Hst2, D2⟩, ⟨Hst3, D3⟩, ⟨Hst4, D4⟩, ⟨Hst5, D5⟩, ⟨Hst6, D6⟩, ⟨Hst7, D7⟩, ⟨Hst8, D8⟩, ⟨Hst9, D9⟩, Ha⟩
  dsimp only
  simp only [semSignalWord, semWaitWord, Prog.lift, Prog.bind_op, Prog.bind_ret, Prog.pure_eq_ret]
  iapply (wp_store_acc c 512 (sd 0 c) (off23 c) (kp 0 c) 512 (fin m) 0 1024 (fin m)
    (fun x => by unfold k0_pay1; exact congrFun (shapeCast_self _ _) x) (fun i h h' => ⟨last_or c h', rfl⟩)) $$ Ha; iintro Ha
  iapply (wp_load_acc c 1024 0 rfl 0 1024 (fin m) (Finset.Subset.refl _)) $$ Ha; iintro Ha
  rw [blk_whole]
  iapply (wp_load 𝒱₀ (c : Thread nD τ) none Set.univ (m := oM) (Finset.subset_univ _)) $$ Ho; iintro Ho
  iapply (wp_store_o c) $$ Ho; iintro Ho
  rw [wp_ret]; imodintro
  iapply Hk
  unfold bodyPost Φ₁ scr zeros
  unfold accI insP wP
  icases Ha with ⟨%fa', -, Ha⟩
  icases Hi with ⟨Hx, Hr, Hi, He⟩
  ihave Hd := (join_d (F := F) c _ _ _ _ _ _) $$ [D0 D1 D2 D3 D4 Hld]
  · isplitl [D0]; · iexact D0
    isplitl [D1]; · iexact D1
    isplitl [D2]; · iexact D2
    isplitl [D3]; · iexact D3
    isplitl [D4]; · iexact D4
    iexact Hld
  ihave Hg := (join_g (F := F) c _ _ _ _ _ _) $$ [D5 D6 D7 D8 D9 Hlg]
  · isplitl [D5]; · iexact D5
    isplitl [D6]; · iexact D6
    isplitl [D7]; · iexact D7
    isplitl [D8]; · iexact D8
    isplitl [D9]; · iexact D9
    iexact Hlg
  ihave Hb := (Entails.of_eq (show srcP m 0 c = _ from if_pos rfl)) $$ Hb
  isplitl [Ha Hw Hb Hd Hg HzB Hst0 Hst1 Hst2 Hst3 Hst4 Hst5 Hst6 Hst7 Hst8 Hst9]
  · isplitl [Ha Hw Hb Hd Hg]
    · isplitl [Ha]; · iexists _; iexact Ha
      isplitl [Hw]; · iexists _; iexact Hw
      isplitl [Hb]; · iexists _; iexact Hb
      isplitl [Hd]; · iexact Hd
      iexact Hg
    isplitr [HzB]
    · isplitl [Hst0]; · iexact Hst0
      isplitl [Hst1]; · iexact Hst1
      isplitl [Hst2]; · iexact Hst2
      isplitl [Hst3]; · iexact Hst3
      isplitl [Hst4]; · iexact Hst4
      isplitl [Hst5]; · iexact Hst5
      isplitl [Hst6]; · iexact Hst6
      isplitl [Hst7]; · iexact Hst7
      isplitl [Hst8]; · iexact Hst8
      iexact Hst9
    iexact HzB
  isplitl [HO]; · iapply (owe_exit m ρ c); iexact HO
  isplitl [Hx]; · iapply (stg_intro c cc0_stg0_0); iexact Hx
  isplitl [Hr]; · iapply (stg_intro c cc0_stg1_0); iexact Hr
  isplitl [Hi]; · iapply (stg_intro c cc0_stg2_0); iexact Hi
  isplitl [He]; · iapply (stg_intro c cc0_stg3_0); iexact He
  iapply (stg_intro c cc0_stg4_0); iexact Ho

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body (F := F) xM (Memref.isWhole_whole _) rM (Memref.isWhole_whole _) iM (Memref.isWhole_whole _) eM (Memref.isWhole_whole _) oM (Memref.isWhole_whole _) aM (Memref.isWhole_whole _) wM (Memref.isWhole_whole _) bM (Memref.isWhole_whole _) dM (Memref.isWhole_whole _) gM (Memref.isWhole_whole _) cc0_scratch5 cc0_scratch6) (fun _ => bodyPost m ρ c)
  iintro H
  iapply (sound_body m ρ c fun _ => bodyPost m ρ c)
  isplitl [H]; · iexact H
  iintro H; iexact H

end Cert.KernelIdeal.Run

end
-- ==== Proof.Launch.lean ====
/-
  The launch: the cells and their tokens, how the tokens are dealt to the devices that pay with them, the
  credit each device starts with, and the run of the whole program on all the devices.
-/
module

public import Idealize.ShloMosaic.Lib.Pipeline.CollectiveSegs
public import proofs.«01_k».proof.Proof.Oblig

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores, the sends' and then the receives'. -/
def osem (j : Fin 20) : SemLoc sig := .dma ⟨j.val + 5, by have := j.isLt; show _ < 25; omega⟩

theorem ownSemFacts : Pipeline.OwnSemFacts cfg0.spec osem := by decide +kernel

theorem share_eq (c : Dev nD) (w : Fin cfg0.W) : (dats m ρ 0 c).share w = fullShare := by unfold Dat.share; split <;> rfl

/-! ## Cells and tokens -/

theorem csem_injective : Function.Injective csem := by decide +kernel

theorem cell_injective : Function.Injective (cell : Dev nD × Fin 21 → GSem nD τ sig) := by
  rintro ⟨c, j⟩ ⟨c', j'⟩ h
  have h1 : c = c' := congrArg (fun g : GSem nD τ sig => g.1.1) h
  have h2 : j = j' := csem_injective (congrArg Prod.snd h)
  rw [h1, h2]

def allCells : Finset (GSem nD τ sig) := Finset.univ.map ⟨cell, cell_injective⟩

/-- The duties of a device's cells: five on the barrier, one on each send cell, one on each receive cell. -/
abbrev Duties : Type := Fin 5 ⊕ (Fin 10 ⊕ Fin 10)

def tsem : Duties → SemLoc sig × Fin 5
  | .inl d => (.reg barS, d)
  | .inr (.inl k) => (.dma (snd k), 0)
  | .inr (.inr k) => (.dma (rcv k), 0)

theorem tsem_injective : Function.Injective tsem := by decide +kernel

abbrev tokOf (cx : Dev nD × Duties) : GSem nD τ sig × ℕ × Fin 5 := (((cx.1 : Thread nD τ), (tsem cx.2).1), 0, (tsem cx.2).2)

theorem tokOf_injective : Function.Injective tokOf := by
  rintro ⟨c, x⟩ ⟨c', x'⟩ h
  have h1 : c = c' := congrArg (fun t : GSem nD τ sig × ℕ × Fin 5 => t.1.1.1) h
  have h2 : x = x' := tsem_injective (congrArg (fun t : GSem nD τ sig × ℕ × Fin 5 => (t.1.2, t.2.2)) h)
  rw [h1, h2]

def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- Who pays a duty of device `c`'s cells, as a permutation of the devices. -/
def payer : Duties → (Dev nD ≃ Dev nD)
  | .inl d => swp (rs d)
  | .inr (.inl _) => Equiv.refl _
  | .inr (.inr k) => swp k

/-- One token. -/
def tok (c : Dev nD) (x : Duties) : sProp 𝕄 := dutyTok ER (tokOf (c, x)).1 (tokOf (c, x)).2.1 (tokOf (c, x)).2.2

/-- The tokens of device `c`'s own cells; -/
def toks (c : Dev nD) : sProp 𝕄 := bigSep Finset.univ fun x : Duties => tok c x
/-- the tokens it pays with. -/
def payToks (c : Dev nD) : sProp 𝕄 := bigSep Finset.univ fun x : Duties => tok (payer x c) x

theorem bigSep_swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl

theorem toks_around : (bigSep Finset.univ fun c : Dev nD => (toks c : sProp 𝕄)) = bigSep Finset.univ fun c : Dev nD => payToks c := by
  unfold toks payToks
  rw [bigSep_swap, bigSep_swap (fun (c : Dev nD) (x : Duties) => (tok (payer x c) x : sProp 𝕄))]
  exact bigSep_congr fun x _ => bigSep_univ_equiv (payer x) (fun c => (tok c x : sProp 𝕄))

/-- A device's positions, all at the start of the round. -/
def ats (c : Dev nD) : sProp 𝕄 := bigSep Finset.univ fun j : Fin 21 => atPos ER (cell (c, j)) 0 ∅ 0

def G (c : Dev nD) : sProp 𝕄 :=
  iprop((bigSep Finset.univ fun j : Fin 21 => roundState ER (sch m) (cell (c, j)) 0)
    ∗ (bigSep Finset.univ fun j : Fin 21 => iprop(atPos ER (cell (c, j)) 0 ∅ 0 ∗ reached ER (cell (c, j)) 0)) ∗ toks c)

def G' (c : Dev nD) : sProp 𝕄 := iprop((∃ K, recs m K) ∗ ats c ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 21 => Φ (cell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sch m) allCells allToks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop(semVal (sndC 0 c) 0 ∗ semVal (sndC 1 c) 0 ∗ semVal (sndC 2 c) 0 ∗ semVal (sndC 3 c) 0 ∗ semVal (sndC 4 c) 0 ∗ semVal (sndC 5 c) 0 ∗ semVal (sndC 6 c) 0 ∗ semVal (sndC 7 c) 0 ∗ semVal (sndC 8 c) 0 ∗ semVal (sndC 9 c) 0 ∗ semVal (rcvC 0 c) 0 ∗ semVal (rcvC 1 c) 0 ∗ semVal (rcvC 2 c) 0 ∗ semVal (rcvC 3 c) 0 ∗ semVal (rcvC 4 c) 0 ∗ semVal (rcvC 5 c) 0 ∗ semVal (rcvC 6 c) 0 ∗ semVal (rcvC 7 c) 0 ∗ semVal (rcvC 8 c) 0 ∗ semVal (rcvC 9 c) 0) := by
  rw [Pipeline.ownSems0_eq_of_list c osem [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide)]; rfl

theorem csem_succ (j : Fin 20) : csem j.succ = osem j := by revert j; decide +kernel

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 21 => semVal (cell (c, j)) 0 : sProp 𝕄) := by
  rw [unscopedSems0_eq, bigSep_univ_at _ (0 : Fin 21)]
  unfold Pipeline.ownSems0
  iintro ⟨HS, HB⟩
  isplitl [HB]; · iexact HB
  iapply (Entails.of_eq (show (bigSep Finset.univ fun j : Fin 20 => semVal ((c.tc : Thread nD τ), osem j) 0 : sProp 𝕄) = _ from ?_)) $$ HS
  rw [show (Finset.univ.erase (0 : Fin 21)) = Finset.univ.map (Fin.succEmb 20) from by decide, bigSep_map]
  exact bigSep_congr fun j _ => by show _ = semVal ((c : Thread nD τ), csem j.succ) 0; rw [csem_succ]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sch m) κ (cell (c, j))))
          ∗ (bigSep Finset.univ fun j => iprop(atPos ER (cell (c, j)) 0 ∅ 0 ∗ reached ER (cell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 21 => semVal (cell (c, j)) 0) ∗ bigSep Finset.univ fun j : Fin 21 => roundState ER (sch m) (cell (c, j)) 0)
      ⊢ (|={Set.univ}=> bigSep Finset.univ fun j => iprop(∃ κ : ℕ, cellInv ER (sch m) κ (cell (c, j))) : sProp 𝕄) from by
        rw [← bigSep_sep']
        exact (bigSep_mono fun j _ => (Rounds.body_intro ER (sch m) (cell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 21 → ℕ) (c : Dev nD) : iprop(recs m K ∗ ats c ∗ payToks c) ⊢ G' m c := by
  unfold G'
  iintro ⟨HR, H⟩
  isplitl [HR]; · iexists K; iexact HR
  iexact H

theorem regroup :
    (bigSep Finset.univ fun c : Dev nD => iprop((bigSep Finset.univ fun j => iprop(∃ κ : ℕ, cellInv ER (sch m) κ (cell (c, j))))
          ∗ (bigSep Finset.univ fun j => iprop(atPos ER (cell (c, j)) 0 ∅ 0 ∗ reached ER (cell (c, j)) 0)) ∗ toks c) : sProp 𝕄)
      ⊢ bigSep Finset.univ (G' m) := by
  rw [bigSep_sep', bigSep_sep', ← bigSep_univ_prod (fun cj : Dev nD × Fin 21 => iprop(∃ κ : ℕ, cellInv ER (sch m) κ (cell cj))),
    bigSep_congr (s := Finset.univ) (fun (c : Dev nD) _ => bigSep_sep' Finset.univ (fun j : Fin 21 => (atPos ER (cell (c, j)) 0 ∅ 0 : sProp 𝕄)) (fun j => reached ER (cell (c, j)) 0)),
    bigSep_sep', ← bigSep_univ_prod (fun cj : Dev nD × Fin 21 => (reached ER (cell cj) 0 : sProp 𝕄)), toks_around]
  iintro ⟨HI, ⟨Hat, #HR⟩, Htk⟩
  ihave HK := (BI.bigSep_exists_pi Finset.univ (fun (cj : Dev nD × Fin 21) (κ : ℕ) => (cellInv ER (sch m) κ (cell cj) : sProp 𝕄))) $$ HI
  icases HK with ⟨%K, #HI⟩
  iapply (bigSep_with_persistent (R := recs m K) fun c _ => ghost_intro m K c)
  isplitr
  · unfold recs; isplitl; · iexact HI
    iexact HR
  · iapply (Entails.of_eq (bigSep_sep' Finset.univ (fun c : Dev nD => (ats c : sProp 𝕄)) payToks).symm)
    isplitl [Hat]; · unfold ats; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem Ob_eq (d : Dev nD) : Ob d 5 = (∑ k : Fin 10, tallyAt (rcvC k (prt k d)) () (N k)) + ∑ j : Fin 5, tallyAt (barC (prt (rs j) d)) () 1 := by
  simp only [Fin.sum_univ_succ, Fin.sum_univ_zero, Ob, Ow, zero_add, add_zero]
  ac_rfl

theorem owed_bar (d c : Dev nD) : Ob d 5 (barC c) () = ∑ j : Fin 5, if d = prt (rs j) c then 1 else 0 := by
  rw [Ob_eq, Pi.add_apply, Finsupp.add_apply, Finset.sum_apply, Finsupp.finset_sum_apply, Finset.sum_apply, Finsupp.finset_sum_apply,
    Finset.sum_eq_zero (fun k _ => by rw [tallyAt_apply]; exact if_neg (fun h => by cases congrArg Prod.snd h.1)), zero_add]
  refine Finset.sum_congr rfl fun j _ => ?_
  rw [tallyAt_apply]
  by_cases h : d = prt (rs j) c
  · subst h; rw [prt_prt, if_pos ⟨rfl, rfl⟩, if_pos rfl]
  · rw [if_neg h, if_neg]
    rintro ⟨h1, -⟩
    have e : c = prt (rs j) d := congrArg (fun g : GSem nD τ sig => g.1.1) h1
    exact h (by rw [e, prt_prt])

theorem rcv_injective : Function.Injective rcv := by decide +kernel

theorem owed_rcv (d c : Dev nD) (k : Fin 10) : Ob d 5 (rcvC k c) () = if d = prt k c then N k else 0 := by
  rw [Ob_eq, Pi.add_apply, Finsupp.add_apply, Finset.sum_apply, Finsupp.finset_sum_apply, Finset.sum_apply, Finsupp.finset_sum_apply,
    Finset.sum_eq_zero (s := (Finset.univ : Finset (Fin 5))) (fun j _ => by rw [tallyAt_apply]; exact if_neg (fun h => by cases congrArg Prod.snd h.1)), add_zero,
    Finset.sum_eq_single k]
  · rw [tallyAt_apply]
    by_cases h : d = prt k c
    · subst h; rw [prt_prt, if_pos ⟨rfl, rfl⟩, if_pos rfl]
    · rw [if_neg h, if_neg]
      rintro ⟨h1, -⟩
      have e : c = prt k d := congrArg (fun g : GSem nD τ sig => g.1.1) h1
      exact h (by rw [e, prt_prt])
  · intro k' _ hk
    rw [tallyAt_apply]
    refine if_neg fun h => hk ?_
    have e : SemLoc.dma (rcv k) = SemLoc.dma (rcv k') := congrArg Prod.snd h.1
    injection e with e
    exact (rcv_injective e).symm
  · exact fun h => absurd (Finset.mem_univ _) h

theorem launch_bar (c : Dev nD) :
    tallyOn (barC c) (launchCredit (Pipeline.owing fun d => Ob d 5) 0 (barC c)) = (tallyAt (barC c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun j _ => (Finset.sum_ite_eq' Finset.univ (prt (rs j) c) fun _ => 1).trans (if_pos (Finset.mem_univ _))]
  rfl

theorem launch_rcv (c : Dev nD) (k : Fin 10) :
    tallyOn (rcvC k c) (launchCredit (Pipeline.owing fun d => Ob d 5) 0 (rcvC k c)) = (tallyAt (rcvC k c) () (N k) : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (prt k c) fun _ => N k,
    if_pos (Finset.mem_univ _)]

theorem creds (c : Dev nD) :
    (Pipeline.launchCred (fun d => Ob d 5) c : sProp 𝕄)
      ⊢ iprop(cred (tallyAt (barC c) () 5) ∗ bigSep Finset.univ fun k : Fin 10 => cred (tallyAt (rcvC k c) () (N k))) := by
  unfold Pipeline.launchCred
  rw [bigSep_univ_at _ (SemLoc.reg barS), launch_bar]
  refine sep_mono_right ?_
  refine (bigSep_subset (t := Finset.univ.map ⟨fun k : Fin 10 => (SemLoc.dma (rcv k) : SemLoc sig), fun a b h => rcv_injective (by injection h)⟩)
    (fun s hs => ?_)).trans ?_
  · rw [Finset.mem_map] at hs
    obtain ⟨k, -, rfl⟩ := hs
    exact Finset.mem_erase.mpr ⟨(fun h => by cases h), Finset.mem_univ _⟩
  · rw [bigSep_map]
    exact Entails.of_eq (bigSep_congr fun k _ => congrArg cred (launch_rcv c k))

/-! ## What a device starts from, put together -/

theorem ats_eq (c : Dev nD) : (ats c : sProp 𝕄) = iprop(atPos ER (barC c) 0 ∅ 0 ∗ atPos ER (sndC 0 c) 0 ∅ 0 ∗ atPos ER (sndC 1 c) 0 ∅ 0 ∗ atPos ER (sndC 2 c) 0 ∅ 0 ∗ atPos ER (sndC 3 c) 0 ∅ 0 ∗ atPos ER (sndC 4 c) 0 ∅ 0 ∗ atPos ER (sndC 5 c) 0 ∅ 0 ∗ atPos ER (sndC 6 c) 0 ∅ 0 ∗ atPos ER (sndC 7 c) 0 ∅ 0 ∗ atPos ER (sndC 8 c) 0 ∅ 0 ∗ atPos ER (sndC 9 c) 0 ∅ 0 ∗ atPos ER (rcvC 0 c) 0 ∅ 0 ∗ atPos ER (rcvC 1 c) 0 ∅ 0 ∗ atPos ER (rcvC 2 c) 0 ∅ 0 ∗ atPos ER (rcvC 3 c) 0 ∅ 0 ∗ atPos ER (rcvC 4 c) 0 ∅ 0 ∗ atPos ER (rcvC 5 c) 0 ∅ 0 ∗ atPos ER (rcvC 6 c) 0 ∅ 0 ∗ atPos ER (rcvC 7 c) 0 ∅ 0 ∗ atPos ER (rcvC 8 c) 0 ∅ 0 ∗ atPos ER (rcvC 9 c) 0 ∅ 0) := by
  unfold ats
  rw [bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)]; rfl

theorem payToks_eq (c : Dev nD) : (payToks c : sProp 𝕄) = iprop((dutyTok ER (barC (prt (rs 0) c)) 0 (0 : Fin 5) ∗ dutyTok ER (barC (prt (rs 1) c)) 0 (1 : Fin 5) ∗ dutyTok ER (barC (prt (rs 2) c)) 0 (2 : Fin 5) ∗ dutyTok ER (barC (prt (rs 3) c)) 0 (3 : Fin 5) ∗ dutyTok ER (barC (prt (rs 4) c)) 0 (4 : Fin 5)) ∗ (dutyTok ER (sndC 0 c) 0 (0 : Fin 5) ∗ dutyTok ER (sndC 1 c) 0 (0 : Fin 5) ∗ dutyTok ER (sndC 2 c) 0 (0 : Fin 5) ∗ dutyTok ER (sndC 3 c) 0 (0 : Fin 5) ∗ dutyTok ER (sndC 4 c) 0 (0 : Fin 5) ∗ dutyTok ER (sndC 5 c) 0 (0 : Fin 5) ∗ dutyTok ER (sndC 6 c) 0 (0 : Fin 5) ∗ dutyTok ER (sndC 7 c) 0 (0 : Fin 5) ∗ dutyTok ER (sndC 8 c) 0 (0 : Fin 5) ∗ dutyTok ER (sndC 9 c) 0 (0 : Fin 5)) ∗ dutyTok ER (rcvC 0 (prt 0 c)) 0 (0 : Fin 5) ∗ dutyTok ER (rcvC 1 (prt 1 c)) 0 (0 : Fin 5) ∗ dutyTok ER (rcvC 2 (prt 2 c)) 0 (0 : Fin 5) ∗ dutyTok ER (rcvC 3 (prt 3 c)) 0 (0 : Fin 5) ∗ dutyTok ER (rcvC 4 (prt 4 c)) 0 (0 : Fin 5) ∗ dutyTok ER (rcvC 5 (prt 5 c)) 0 (0 : Fin 5) ∗ dutyTok ER (rcvC 6 (prt 6 c)) 0 (0 : Fin 5) ∗ dutyTok ER (rcvC 7 (prt 7 c)) 0 (0 : Fin 5) ∗ dutyTok ER (rcvC 8 (prt 8 c)) 0 (0 : Fin 5) ∗ dutyTok ER (rcvC 9 (prt 9 c)) 0 (0 : Fin 5)) := by
  unfold payToks
  rw [bigSep_univ_sum, bigSep_univ_sum, bigSep_univ_eq_bigSepL [(0 : Fin 5), (1 : Fin 5), (2 : Fin 5), (3 : Fin 5), (4 : Fin 5)] (by decide) (by decide),
    bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide),
    bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide)]
  rfl

theorem creds_eq (c : Dev nD) : (bigSep Finset.univ fun k : Fin 10 => (cred (tallyAt (rcvC k c) () (N k)) : sProp 𝕄)) = iprop(cred (tallyAt (rcvC 0 c) () (N 0)) ∗ cred (tallyAt (rcvC 1 c) () (N 1)) ∗ cred (tallyAt (rcvC 2 c) () (N 2)) ∗ cred (tallyAt (rcvC 3 c) () (N 3)) ∗ cred (tallyAt (rcvC 4 c) () (N 4)) ∗ cred (tallyAt (rcvC 5 c) () (N 5)) ∗ cred (tallyAt (rcvC 6 c) () (N 6)) ∗ cred (tallyAt (rcvC 7 c) () (N 7)) ∗ cred (tallyAt (rcvC 8 c) () (N 8)) ∗ cred (tallyAt (rcvC 9 c) () (N 9))) := by
  rw [bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide)]; rfl

theorem steps_intro (c : Dev nD) :
    iprop(ats c ∗ payToks c ∗ cred (tallyAt (barC c) () 5) ∗ bigSep Finset.univ fun k : Fin 10 => cred (tallyAt (rcvC k c) () (N k)))
      ⊢ (iprop(barR c ∗ stepR 0 c ∗ stepR 1 c ∗ stepR 2 c ∗ stepR 3 c ∗ stepR 4 c ∗ stepR 5 c ∗ stepR 6 c ∗ stepR 7 c ∗ stepR 8 c ∗ stepR 9 c) : sProp 𝕄) := by
  rw [ats_eq, payToks_eq, creds_eq]
  unfold barR stepR
  iintro ⟨⟨A, S0, S1, S2, S3, S4, S5, S6, S7, S8, S9, R0, R1, R2, R3, R4, R5, R6, R7, R8, R9⟩, ⟨⟨B0, B1, B2, B3, B4⟩, ⟨T0, T1, T2, T3, T4, T5, T6, T7, T8, T9⟩, U0, U1, U2, U3, U4, U5, U6, U7, U8, U9⟩, CB, C0, C1, C2, C3, C4, C5, C6, C7, C8, C9⟩
  isplitl [A B0 B1 B2 B3 B4 CB]
  · isplitl [A]; · iexact A
    isplitl [CB]; · iexact CB
    isplitl [B0]; · iexact B0
    isplitl [B1]; · iexact B1
    isplitl [B2]; · iexact B2
    isplitl [B3]; · iexact B3
    iexact B4
  isplitl [S0 R0 T0 U0 C0]
  · isplitl [S0]; · iexact S0
    isplitl [R0]; · iexact R0
    isplitl [T0]; · iexact T0
    isplitl [U0]; · iexact U0
    iexact C0
  isplitl [S1 R1 T1 U1 C1]
  · isplitl [S1]; · iexact S1
    isplitl [R1]; · iexact R1
    isplitl [T1]; · iexact T1
    isplitl [U1]; · iexact U1
    iexact C1
  isplitl [S2 R2 T2 U2 C2]
  · isplitl [S2]; · iexact S2
    isplitl [R2]; · iexact R2
    isplitl [T2]; · iexact T2
    isplitl [U2]; · iexact U2
    iexact C2
  isplitl [S3 R3 T3 U3 C3]
  · isplitl [S3]; · iexact S3
    isplitl [R3]; · iexact R3
    isplitl [T3]; · iexact T3
    isplitl [U3]; · iexact U3
    iexact C3
  isplitl [S4 R4 T4 U4 C4]
  · isplitl [S4]; · iexact S4
    isplitl [R4]; · iexact R4
    isplitl [T4]; · iexact T4
    isplitl [U4]; · iexact U4
    iexact C4
  isplitl [S5 R5 T5 U5 C5]
  · isplitl [S5]; · iexact S5
    isplitl [R5]; · iexact R5
    isplitl [T5]; · iexact T5
    isplitl [U5]; · iexact U5
    iexact C5
  isplitl [S6 R6 T6 U6 C6]
  · isplitl [S6]; · iexact S6
    isplitl [R6]; · iexact R6
    isplitl [T6]; · iexact T6
    isplitl [U6]; · iexact U6
    iexact C6
  isplitl [S7 R7 T7 U7 C7]
  · isplitl [S7]; · iexact S7
    isplitl [R7]; · iexact R7
    isplitl [T7]; · iexact T7
    isplitl [U7]; · iexact U7
    iexact C7
  isplitl [S8 R8 T8 U8 C8]
  · isplitl [S8]; · iexact S8
    isplitl [R8]; · iexact R8
    isplitl [T8]; · iexact T8
    isplitl [U8]; · iexact U8
    iexact C8

  · isplitl [S9]; · iexact S9
    isplitl [R9]; · iexact R9
    isplitl [T9]; · iexact T9
    isplitl [U9]; · iexact U9
    iexact C9

theorem start_intro (c : Dev nD) :
    iprop(Pipeline.unscopedRestP Pipeline.Prefetch.none cfg0.spec c (fun b => m ((c : Thread nD τ).loc b)) ∗ levAts L lv
        ∗ Pipeline.launchCred (fun d => Ob d 5) c ∗ prngReg c (ρ c) ∗ G' m c)
      ⊢ |={Set.univ}=> iprop(start m c ∗ emp) := by
  unfold start G'
  iintro ⟨-, Hlev, Hcr, -, HK, Hat, Htk⟩
  ihave Hc := (creds (F := F) c) $$ Hcr
  icases Hc with ⟨H1, HN⟩
  ihave Hs := (steps_intro (F := F) c) $$ [Hat Htk H1 HN]
  · isplitl [Hat]; · iexact Hat
    isplitl [Htk]; · iexact Htk
    isplitl [H1]; · iexact H1
    iexact HN
  imodintro
  isplitl
  · isplitl [HK]; · iexact HK
    isplitl [Hlev]; · iexact Hlev
    iexact Hs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr zeros stepR₃
  iintro ⟨Hr, ⟨⟨S0, R0⟩, ⟨S1, R1⟩, ⟨S2, R2⟩, ⟨S3, R3⟩, ⟨S4, R4⟩, ⟨S5, R5⟩, ⟨S6, R6⟩, ⟨S7, R7⟩, ⟨S8, R8⟩, ⟨S9, R9⟩⟩, HzB⟩
  isplitl [HzB]; · iexact HzB
  isplitl [S0 R0 S1 R1 S2 R2 S3 R3 S4 R4 S5 R5 S6 R6 S7 R7 S8 R8 S9 R9]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution on the 32 devices terminates, and in every
    final state the windows' arrays hold the computed contents. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Ob d 5) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is unchanged. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Run

end
-- ==== Proof.Same.lean ====
/-
  The kernel as printed and the kernel read at the ideal instance are one text: their tables of bodies agree over
  any float values.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The two bodies agree on all operands. -/
theorem body_eq a0 b0 a1 b1 a2 b2 a3 b3 a4 b4 a5 b5 a6 b6 a7 b7 a8 b8 a9 b9 a10 a11 :
    Cert.Kernel.cc0_body (F := F) a0 b0 a1 b1 a2 b2 a3 b3 a4 b4 a5 b5 a6 b6 a7 b7 a8 b8 a9 b9 a10 a11
      = Cert.KernelIdeal.cc0_body (F := F) a0 b0 a1 b1 a2 b2 a3 b3 a4 b4 a5 b5 a6 b6 a7 b7 a8 b8 a9 b9 a10 a11 := rfl

/-- The two tables of bodies agree. -/
theorem bodies_eq : Cert.Kernel.defs₀ (F := F) = Cert.KernelIdeal.defs₀ (F := F) := by
  unfold Kernel.defs₀ KernelIdeal.defs₀
  refine congrArg Defs.onTc ?_
  funext l a
  match l, a with
  | ⟨0, _⟩, (t, s) =>
    dsimp only
    exact body_eq _ _ _ _ _ _ _ _ _ _ _ _ _ _ _ _ _ _ _ _ _ _
  | ⟨_ + 1, h⟩, _ => exact absurd h (Nat.not_lt.2 (Nat.le_add_left _ _))

/-- The two programs run over one table of definitions. -/
theorem defs_eq : Cert.Kernel.defs (F := F) = Cert.KernelIdeal.defs (F := F) :=
  congrArg (Pipeline.defs Cert.Kernel.pcfgs) bodies_eq

end Cert.Same

end
-- ==== Proof.Frames.lean ====
/-
  The frames: the kernel, as printed and read at the ideal instance, and the reference run to completion,
  leave their arguments as they were, and bring every semaphore counter back to zero.
-/
module

public import proofs.«01_k».proof.Defs
public import proofs.«01_k».proof.Proof.Launch
public import proofs.«01_k».proof.Proof.Same
public import proofs.«01_k».proof.Proof.Gen.ReferenceIdeal
public import proofs.«01_k».proof.Proof.Gen.ReferenceIdeal.Run

@[expose] public section

noncomputable section

namespace Cert.Frames

open Idealize.ShloMosaic Idealize.SL.Sem
open Cert.KernelIdeal.Run (QC finalA_in run_main)

section
open Cert.KernelIdeal

/-- The arguments after a run of the kernel are the arguments before it. -/
theorem args_kept {F : FTy → Type} [FloatOps F] {m : (ℓ : Loc nD τ sig) → Buf (Elt F) ℓ} {ρ : Dev nD → PrngReg} {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c 0).trans (finalA_in m ρ c 0 rfl), (h c 1).trans (finalA_in m ρ c 1 rfl), (h c 2).trans (finalA_in m ρ c 2 rfl),
    (h c 3).trans (finalA_in m ρ c 3 rfl)⟩

end

/-- The frame of the kernel at the ideal instance. -/
theorem frame_ideal : Cert.quiescent_KernelIdeal := fun m ρ _ =>
  (θ_run Cert.KernelIdeal.defs _ _).mono (fun _ h => ⟨args_kept h.1, h.2⟩) (run_main (F := Ideal) m ρ)

/-- The frame of the kernel as printed: the same text read over the machine's floats. -/
theorem frame_kernel : Cert.quiescent_Kernel := fun m ρ _ =>
  (congrArg (fun D => θ_run D (onTc (τ := Cert.Kernel.τ) (Cert.Kernel.main (F := Bits))) ⟨m, fun _ => 0, ρ⟩ _) Cert.Same.defs_eq).mpr
    ((θ_run Cert.KernelIdeal.defs _ _).mono (fun _ h => ⟨args_kept h.1, h.2⟩) (run_main (F := Bits) m ρ))

/-- The frame of the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.Model.lean ====
/-
  The mixture of experts in plain mathematics over the extended reals: each token's softmax over the
  128 experts, its weights on the two experts it is routed to, and the sum of the experts' outputs so
  weighted. The kernel sums over all the experts with zero weights off the two; the reference adds
  the two. For finite tokens and router weights these are one function.
-/
module

public import Idealize.ShloMosaic.PureOps.Ideal

@[expose] public section

noncomputable section

namespace Cert.Model

open Idealize.ShloMosaic

variable (X : Fin 1024 → Fin 256 → EReal) (R : Fin 256 → Fin 128 → EReal)
variable (I : Fin 1024 → Fin 2 → Fin 128) (W : Fin 128 → Fin 256 → Fin 512 → EReal)

/-- The router's score of expert `e` for token `t`. -/
def score (t : Fin 1024) (e : Fin 128) : EReal := ∑ k : Fin 256, X t k * R k e
/-- The greatest score of token `t`. -/
def peak (t : Fin 1024) : EReal := Finset.univ.fold max ⊥ (score X R t)
/-- The exponential of a score less the greatest. -/
def mass (t : Fin 1024) (e : Fin 128) : EReal := Ideal.exp (score X R t e - peak X R t)
/-- The softmax. -/
def prob (t : Fin 1024) (e : Fin 128) : EReal := Ideal.div (mass X R t e) (∑ e', mass X R t e')
/-- The softmax on the two experts of the token, zero elsewhere. -/
def chosen (t : Fin 1024) (e : Fin 128) : EReal := if e = I t 0 ∨ e = I t 1 then prob X R t e else 0
/-- That, made to sum to one. -/
def gate (t : Fin 1024) (e : Fin 128) : EReal := Ideal.div (chosen X R I t e) (∑ e', chosen X R I t e')
/-- Expert `e`'s output for token `t`. -/
def yield (t : Fin 1024) (e : Fin 128) (o : Fin 512) : EReal := ∑ k : Fin 256, X t k * W e k o
/-- Expert `e`'s share of the result as the kernel forms it: the weight goes on the token. -/
def share (t : Fin 1024) (e : Fin 128) (o : Fin 512) : EReal := ∑ k : Fin 256, (X t k * gate X R I t e) * W e k o
/-- The kernel's result. -/
def answer (t : Fin 1024) (o : Fin 512) : EReal := ∑ e : Fin 128, share X R I W t e o
/-- The reference's result. -/
def wanted (t : Fin 1024) (o : Fin 512) : EReal :=
  Ideal.div (prob X R t (I t 0)) (prob X R t (I t 0) + prob X R t (I t 1)) * yield X W t (I t 0) o
    + Ideal.div (prob X R t (I t 1)) (prob X R t (I t 0) + prob X R t (I t 1)) * yield X W t (I t 1) o

/-- The word the maximum starts from is the least extended real … -/
theorem ofBits_bot : Ideal.ofBits .f32 0xFF800000#32 = ⊥ := by simp [Ideal.ofBits, Ideal.ieee]
/-- … and the word of the positive infinity the greatest. -/
theorem ofBits_top : Ideal.ofBits .f32 0x7F800000#32 = ⊤ := by simp [Ideal.ofBits, Ideal.ieee]

/-! ## Finite sums and quotients of real numbers in the extended reals -/

/-- A sum of reals is the real sum. -/
theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- A nonnegative real goes into a sum of extended reals. -/
theorem coe_mul_sum {ι : Type} (s : Finset ι) {g : ℝ} (hg : 0 ≤ g) (f : ι → EReal) : (g : EReal) * ∑ i ∈ s, f i = ∑ i ∈ s, (g : EReal) * f i := by
  induction s using Finset.cons_induction with
  | empty => simp
  | cons a s h ih =>
    rw [Finset.sum_cons, Finset.sum_cons, EReal.left_distrib_of_nonneg_of_ne_top (EReal.coe_nonneg.2 hg) (EReal.coe_ne_top g), ih]

/-- The quotient of two reals, the second not zero. -/
theorem div_coe (a : ℝ) {b : ℝ} (hb : b ≠ 0) : Ideal.div (a : EReal) (b : EReal) = ((a / b : ℝ) : EReal) := by
  have : (b : EReal) ≠ 0 := by exact_mod_cast hb
  rw [Ideal.div, if_neg this, div_eq_mul_inv, EReal.coe_mul, EReal.coe_inv]

/-! ## The softmax of finite scores -/

section
variable {X R}
variable (hX : ∀ t k, ∃ a : ℝ, X t k = a) (hR : ∀ k e, ∃ a : ℝ, R k e = a)
include hX hR

/-- Every score is a real number. -/
theorem score_real (t : Fin 1024) : ∃ s : Fin 128 → ℝ, ∀ e, score X R t e = (s e : EReal) := by
  choose x hx using hX
  choose r hr using hR
  refine ⟨fun e => ∑ k, x t k * r k e, fun e => ?_⟩
  rw [score, coe_sum]
  exact Finset.sum_congr rfl fun k _ => by rw [hx, hr, EReal.coe_mul]

/-- Every entry of the softmax is a positive real number. -/
theorem prob_real (t : Fin 1024) : ∃ p : Fin 128 → ℝ, (∀ e, 0 < p e) ∧ ∀ e, prob X R t e = (p e : EReal) := by
  obtain ⟨s, hs⟩ := score_real hX hR t
  obtain ⟨e₀, -, h₀⟩ := Finset.exists_mem_eq_sup (Finset.univ : Finset (Fin 128)) Finset.univ_nonempty (score X R t)
  have hp : peak X R t = (s e₀ : EReal) := by rw [← hs, ← h₀]; rfl
  have hm : ∀ e, mass X R t e = (Real.exp (s e - s e₀) : EReal) := fun e => by
    rw [mass, hs, hp, ← EReal.coe_sub]; rfl
  have hpos : 0 < ∑ e : Fin 128, Real.exp (s e - s e₀) := Finset.sum_pos (fun e _ => Real.exp_pos _) Finset.univ_nonempty
  refine ⟨fun e => Real.exp (s e - s e₀) / ∑ e : Fin 128, Real.exp (s e - s e₀), fun e => div_pos (Real.exp_pos _) hpos, fun e => ?_⟩
  rw [prob, ← div_coe _ hpos.ne', coe_sum]
  simp only [hm]

/-- THE TWO FORMS AGREE: for finite tokens and router weights, the sum over all the experts with the
    weights on the tokens is the weighted sum of the two routed experts' outputs. -/
theorem answer_eq_wanted (t : Fin 1024) (o : Fin 512) : answer X R I W t o = wanted X R I W t o := by
  obtain ⟨p, hp, hprob⟩ := prob_real hX hR t
  set a := I t 0 with ha
  set b := I t 1 with hb
  set c : Fin 128 → ℝ := fun e => if e = a ∨ e = b then p e else 0 with hc
  have hchosen : ∀ e, chosen X R I t e = (c e : EReal) := fun e => by
    rw [chosen, hprob, hc]; dsimp only; split <;> rfl
  have hc0 : ∀ e, 0 ≤ c e := fun e => by rw [hc]; dsimp only; split; exacts [(hp e).le, le_rfl]
  have hca : c a = p a := if_pos (Or.inl rfl)
  have hcb : c b = p b := if_pos (Or.inr rfl)
  set S : ℝ := ∑ e, c e with hS
  have hSpos : 0 < S := Finset.sum_pos' (fun e _ => hc0 e) ⟨a, Finset.mem_univ a, by rw [hca]; exact hp a⟩
  have hgate : ∀ e, gate X R I t e = ((c e / S : ℝ) : EReal) := fun e => by
    rw [gate, ← div_coe _ hSpos.ne', hS, coe_sum]; simp only [hchosen]
  have hshare : ∀ e, share X R I W t e o = ((c e / S : ℝ) : EReal) * yield X W t e o := fun e => by
    rw [share, yield, coe_mul_sum _ (div_nonneg (hc0 e) hSpos.le)]
    refine Finset.sum_congr rfl fun k _ => ?_
    rw [hgate, mul_comm (X t k), mul_assoc]
  have hzero : ∀ e, e ≠ a → e ≠ b → share X R I W t e o = 0 := fun e h1 h2 => by
    rw [hshare, hc]; dsimp only; rw [if_neg (by tauto)]; simp
  have hwa : wanted X R I W t o = ((p a / (p a + p b) : ℝ) : EReal) * yield X W t a o + ((p b / (p a + p b) : ℝ) : EReal) * yield X W t b o := by
    have hab : p a + p b ≠ 0 := (add_pos (hp a) (hp b)).ne'
    rw [wanted, ← ha, ← hb, hprob, hprob, ← EReal.coe_add, div_coe _ hab, div_coe _ hab]
  rw [answer, hwa]
  by_cases hab : a = b
  · rw [Finset.sum_eq_single a (fun e _ h => hzero e h (hab ▸ h)) (fun h => absurd (Finset.mem_univ a) h), hshare, ← hab]
    have hSa : S = c a := Finset.sum_eq_single a (fun e _ h => if_neg (by rw [← hab]; tauto)) (fun h => absurd (Finset.mem_univ a) h)
    have hpa := hp a
    rw [← EReal.right_distrib_of_nonneg (EReal.coe_nonneg.2 (by positivity)) (EReal.coe_nonneg.2 (by positivity)), ← EReal.coe_add, hSa, hca]
    congr 2
    field_simp
  · rw [Finset.sum_eq_add a b hab (fun e _ h => hzero e h.1 h.2) (fun h => absurd (Finset.mem_univ a) h) (fun h => absurd (Finset.mem_univ b) h), hshare, hshare, hca, hcb]
    have hSab : S = p a + p b := by
      rw [hS, Finset.sum_eq_add a b hab (fun e _ h => if_neg (by tauto)) (fun h => absurd (Finset.mem_univ a) h) (fun h => absurd (Finset.mem_univ b) h)]
      exact congrArg₂ (· + ·) hca hcb
    rw [hSab]

end

end Cert.Model
-- ==== Proof.Gate.lean ====
/-
  The kernel's payloads read at a row and a column: the gate table, and the halves of a device's
  partial product.
-/
module

public import proofs.«01_k».proof.Proof.Model
public import proofs.«01_k».proof.Proof.Contents
public import Idealize.ShloMosaic.Lib.Pointwise
public import Idealize.ShloMosaic.Lib.Affine

@[expose] public section

set_option maxRecDepth 16384

noncomputable section

namespace Cert.KernelValue

open Idealize.ShloMosaic Cert.KernelIdeal Cert.KernelIdeal.Gen Cert.KernelIdeal.Run

/-- Two expert numbers written as words are equal as words exactly when they are equal. -/
theorem word_eq {a b : ℕ} (ha : a < 2 ^ 31) (hb : b < 2 ^ 31) : IntOp.cmpi .eq (BitVec.ofNat 32 a) (BitVec.ofNat 32 b) = BitVec.ofBool (decide (a = b)) := by
  rw [IntOp.cmpi]
  congr 1
  by_cases h : a = b
  · simp [h]
  · simp only [h, decide_false, beq_eq_false_iff_ne, ne_eq]
    intro hc
    have := congrArg BitVec.toNat hc
    simp only [BitVec.toNat_ofNat] at this
    omega

/-- A selection on "one of two" of numbers is the `if`. -/
theorem select_or {α : Type} (p q : Prop) [Decidable p] [Decidable q] (x y : α) :
    Scalar.select (IntOp.ori (BitVec.ofBool (decide p)) (BitVec.ofBool (decide q))) x y = if p ∨ q then x else y := by
  by_cases hp : p <;> by_cases hq : q <;> simp [hp, hq, Scalar.select, IntOp.ori]

theorem select_dec {α : Type} (p : Prop) [Decidable p] (x y : α) :
    Scalar.select (BitVec.ofBool (decide p)) x y = if p then x else y := by
  by_cases hp : p <;> simp [hp, Scalar.select]

/-- THE GATE TABLE at a token and an expert. -/
theorem pay3_apply (x : FVec Ideal S1024x256 .bf16) (r : FVec Ideal S256x128 .bf16) (a b : Vec Ideal S1024x1 .i32) (I : Fin 1024 → Fin 2 → Fin 128)
    (ha : ∀ t, a (ix2 t 0) = BitVec.ofNat 32 (I t 0).val) (hb : ∀ t, b (ix2 t 0) = BitVec.ofNat 32 (I t 1).val) (t : Fin 1024) (e : Fin 128) :
    k0_pay3 x r a b (ix2 t e) = Model.gate (fun t k => x (ix2 t k)) (fun k e => r (ix2 k e)) I t e := by
  have hs : ∀ (e : Fin 128) (p : EReal), Scalar.select (IntOp.ori (IntOp.cmpi CmpIPredicate.eq (BitVec.ofNat 32 e.val) (a (ix2 t 0))) (IntOp.cmpi CmpIPredicate.eq (BitVec.ofNat 32 e.val) (b (ix2 t 0)))) p 0
      = if e = I t 0 ∨ e = I t 1 then p else 0 := fun e p => by
    rw [ha, hb, word_eq (by omega) (by omega), word_eq (by omega) (by omega), select_or]
    simp only [Fin.ext_iff]
  pointwise [k0_pay3, hs, Model.ofBits_bot]
  rfl

/-- A sum that a selection cuts to one column. -/
theorem pick_sum (w : Fin 128 → EReal) (e : Fin 128) (n : BitVec 32) (h : n = BitVec.ofNat 32 e.val) :
    ∑ x : Fin 128, Scalar.select (IntOp.cmpi CmpIPredicate.eq (BitVec.ofNat 32 x.val) n) (w x) 0 = w e := by
  have hs : ∀ x : Fin 128, Scalar.select (IntOp.cmpi CmpIPredicate.eq (BitVec.ofNat 32 x.val) n) (w x) 0 = if x = e then w x else 0 := fun x => by
    rw [h, word_eq (by omega) (by omega), select_dec]; simp only [Fin.ext_iff]
  simp only [hs, Finset.sum_ite_eq', Finset.mem_univ, if_true]

/-- The expert `j` of device `c`. -/
def expert (c : Dev nD) (j : Fin 4) : Fin 128 := ⟨4 * c.val + j.val, by have := c.isLt; have : nD = 32 := rfl; omega⟩

theorem word_expert (c : Dev nD) (j : Fin 4) : Scalar.addi (Scalar.muli (word c) 4#32) (BitVec.ofNat 32 j.val) = BitVec.ofNat 32 (expert c j).val := by
  revert c j; decide +kernel

/-- Where a coordinate of a unit rectangle lies. -/
theorem idx_val' {s : Shape} (off size : Fin s.rank → ℕ) (inb) (x : (Rect.unit off size inb).shape.Idx) (a : Fin s.rank) :
    ((Rect.unit off size inb).idx x a).val = off a + (x a).val :=
  congrArg (off a + ·) (Nat.one_mul _)

/-- A load of one expert, at a place of it. -/
theorem exp0_apply (e : (cc0_stg3_0 : Ref sig .tc).ty.Contents (Elt Ideal)) (k : Fin 256) (o : Fin 512) : exp0 e (ix3 0 k o) = e (ix3 (0 : Fin 4) k o) :=
  congrArg e (funext fun a => Fin.ext (by
    refine (idx_val' _ _ _ _ a).trans ?_
    fin_cases a <;> simp))
theorem exp1_apply (e : (cc0_stg3_0 : Ref sig .tc).ty.Contents (Elt Ideal)) (k : Fin 256) (o : Fin 512) : exp1 e (ix3 0 k o) = e (ix3 (1 : Fin 4) k o) :=
  congrArg e (funext fun a => Fin.ext (by
    refine (idx_val' _ _ _ _ a).trans ?_
    fin_cases a <;> simp))
theorem exp2_apply (e : (cc0_stg3_0 : Ref sig .tc).ty.Contents (Elt Ideal)) (k : Fin 256) (o : Fin 512) : Run.exp2 e (ix3 0 k o) = e (ix3 (2 : Fin 4) k o) :=
  congrArg e (funext fun a => Fin.ext (by
    refine (idx_val' _ _ _ _ a).trans ?_
    fin_cases a <;> simp))
theorem exp3_apply (e : (cc0_stg3_0 : Ref sig .tc).ty.Contents (Elt Ideal)) (k : Fin 256) (o : Fin 512) : exp3 e (ix3 0 k o) = e (ix3 (3 : Fin 4) k o) :=
  congrArg e (funext fun a => Fin.ext (by
    refine (idx_val' _ _ _ _ a).trans ?_
    fin_cases a <;> simp))

/-- A load of half of the tokens, at a row and a column of it; -/
theorem xAt_apply {off : Fin 2 → ℕ} {s : ℕ} (h : off = ![s, 0]) (inb) (x : (cc0_stg0_0 : Ref sig .tc).ty.Contents (Elt Ideal)) (r : Fin 512) (k : Fin 256) (t : Fin 1024) (ht : t.val = s + r.val) :
    xAt off inb x (ix2 r k) = x (ix2 t k) := by
  subst h
  exact congrArg x (funext fun a => Fin.ext (by
    refine (idx_val' _ _ _ _ a).trans ?_
    fin_cases a <;> simp [ht]))
/-- of half of the gate table. -/
theorem wAt_apply {off : Fin 2 → ℕ} {s : ℕ} (h : off = ![s, 0]) (inb) (w : (cc0_scratch1 : Ref sig .tc).ty.Contents (Elt Ideal)) (r : Fin 512) (e : Fin 128) (t : Fin 1024) (ht : t.val = s + r.val) :
    wAt off inb w (ix2 r e) = w (ix2 t e) := by
  subst h
  exact congrArg w (funext fun a => Fin.ext (by
    refine (idx_val' _ _ _ _ a).trans ?_
    fin_cases a <;> simp [ht]))

/-- The half a device sends, at a row and a column of it. -/
theorem sendHalf_apply (c : Dev nD) (x : FVec Ideal S512x256 .bf16) (w : FVec Ideal S512x128 .f32) (e : (cc0_stg3_0 : Ref sig .tc).ty.Contents (Elt Ideal)) (r : Fin 512) (o : Fin 512) :
    sendHalf (word c) x w e (ix2 r o) = ∑ j : Fin 4, ∑ k : Fin 256, (x (ix2 r k) * w (ix2 r (expert c j))) * e (ix3 j k o) := by
  have h0 := pick_sum (fun q => w (ix2 r q)) (expert c 0) _ (word_expert c 0)
  have h1 := pick_sum (fun q => w (ix2 r q)) (expert c 1) _ (word_expert c 1)
  have h2 := pick_sum (fun q => w (ix2 r q)) (expert c 2) _ (word_expert c 2)
  have h3 := pick_sum (fun q => w (ix2 r q)) (expert c 3) _ (word_expert c 3)
  pointwise [sendHalf, k0_pay4, k0_pay5, k0_pay6, k0_pay7]
  simp only [exp0_apply, exp1_apply, exp2_apply, exp3_apply, Fin.sum_univ_four]
  rw [← h0, ← h1, ← h2, ← h3]
  rfl

/-- The half it keeps, at a row and a column of it. -/
theorem keepHalf_apply (c : Dev nD) (x : FVec Ideal S512x256 .bf16) (w : FVec Ideal S512x128 .f32) (e : (cc0_stg3_0 : Ref sig .tc).ty.Contents (Elt Ideal)) (r : Fin 512) (o : Fin 512) :
    keepHalf (word c) x w e (ix2 r o) = ∑ j : Fin 4, ∑ k : Fin 256, (x (ix2 r k) * w (ix2 r (expert c j))) * e (ix3 j k o) := by
  have h0 := pick_sum (fun q => w (ix2 r q)) (expert c 0) _ (word_expert c 0)
  have h1 := pick_sum (fun q => w (ix2 r q)) (expert c 1) _ (word_expert c 1)
  have h2 := pick_sum (fun q => w (ix2 r q)) (expert c 2) _ (word_expert c 2)
  have h3 := pick_sum (fun q => w (ix2 r q)) (expert c 3) _ (word_expert c 3)
  pointwise [keepHalf, k0_pay8, k0_pay9, k0_pay10]
  simp only [exp0_apply, exp1_apply, exp2_apply, exp3_apply, Fin.sum_univ_four]
  rw [← h0, ← h1, ← h2, ← h3]
  rfl

end Cert.KernelValue

end
-- ==== Proof.Total.lean ====
/-
  The kernel's result at a token and an output column: the halves of the partial products, the
  butterfly's sum of them over the devices, and the sum over all the experts.
-/
module

public import proofs.«01_k».proof.Proof.Gate

@[expose] public section

set_option maxRecDepth 16384

noncomputable section

namespace Cert.KernelValue

open Idealize.ShloMosaic Cert.KernelIdeal Cert.KernelIdeal.Gen Cert.KernelIdeal.Run

/-! ## The partial products -/

/-- The staged arguments, read as tables: every device holds the same tokens, router and routing, and
    device `c` holds the experts `4 c … 4 c + 3`. -/
structure Holds (m : (ℓ : Loc nD τ sig) → Buf (Elt Ideal) ℓ) (X : Fin 1024 → Fin 256 → EReal) (R : Fin 256 → Fin 128 → EReal)
    (I : Fin 1024 → Fin 2 → Fin 128) (W : Fin 128 → Fin 256 → Fin 512 → EReal) : Prop where
  tokens : ∀ c t k, inX m c (ix2 t k) = X t k
  router : ∀ c k e, inR m c (ix2 k e) = R k e
  routing : ∀ c t j, inI m c (ix2 t j) = BitVec.ofNat 32 (I t j).val
  experts : ∀ c j k o, inE m c (ix3 j k o) = W (expert c j) k o

variable {m : (ℓ : Loc nD τ sig) → Buf (Elt Ideal) ℓ} {X : Fin 1024 → Fin 256 → EReal} {R : Fin 256 → Fin 128 → EReal}
  {I : Fin 1024 → Fin 2 → Fin 128} {W : Fin 128 → Fin 256 → Fin 512 → EReal}

/-- A load of the routing's first column, -/
theorem routed0 (i : (cc0_stg2_0 : Ref sig .tc).ty.Contents (Elt Ideal)) (t : Fin 1024) :
    iM.view.readAt (Elt Ideal) (Rect.unit (s := S1024x2) ![0, 0] S1024x1.size inb_S1024x2_S1024x1_0_0).toLoadRect i (ix2 t (0 : Fin 1)) = i (ix2 t (0 : Fin 2)) :=
  congrArg i (funext fun a => Fin.ext (by
    refine (idx_val' _ _ _ _ a).trans ?_
    fin_cases a <;> simp))
/-- and of its second. -/
theorem routed1 (i : (cc0_stg2_0 : Ref sig .tc).ty.Contents (Elt Ideal)) (t : Fin 1024) :
    iM.view.readAt (Elt Ideal) (Rect.unit (s := S1024x2) ![0, 1] S1024x1.size inb_S1024x2_S1024x1_0_1).toLoadRect i (ix2 t (0 : Fin 1)) = i (ix2 t (1 : Fin 2)) :=
  congrArg i (funext fun a => Fin.ext (by
    refine (idx_val' _ _ _ _ a).trans ?_
    fin_cases a <;> simp))

/-- The gate table on every device. -/
theorem wv_apply (h : Holds m X R I W) (c : Dev nD) (t : Fin 1024) (e : Fin 128) : wv m c (ix2 t e) = Model.gate X R I t e := by
  refine (pay3_apply _ _ _ _ I (fun t => (routed0 _ t).trans (h.routing c t 0)) (fun t => (routed1 _ t).trans (h.routing c t 1)) t e).trans ?_
  congr 1
  · exact funext fun t => funext fun k => h.tokens c t k
  · exact funext fun k => funext fun e => h.router c k e

/-- A place in a half, by its coordinates. -/
theorem ix5_eq (r : ℕ) (q : Fin 512) : ix5 r q = ix2 (⟨r % 512, Nat.mod_lt _ (by decide)⟩ : Fin 512) q :=
  funext fun a => match a with
  | ⟨0, _⟩ => rfl
  | ⟨1, _⟩ => rfl

theorem bit_le (c : Dev nD) : bit 8 c ≤ 1 := by revert c; decide +kernel
theorem kp_zero (c : Dev nD) : kp 0 c = 512 * bit 8 c := rfl
theorem sd_zero (c : Dev nD) : sd 0 c = 512 * (1 - bit 8 c) := by revert c; decide +kernel

/-- DEVICE `c`'S PARTIAL PRODUCT is the share of its four experts. -/
theorem part_apply (h : Holds m X R I W) (c : Dev nD) (t : Fin 1024) (o : Fin 512) :
    part m c (ix2 t o) = ∑ j : Fin 4, Model.share X R I W t (expert c j) o := by
  have hb := bit_le c
  have ht := t.isLt
  have hrow : row (ix2 t o) = t.val := rfl
  have hcol : col (ix2 t o) = o := rfl
  unfold part
  rw [hrow, hcol, ix5_eq]
  split
  · rename_i hc
    have hs : t.val = kp 0 c + t.val % 512 := by rw [kp_zero]; omega
    refine (keepHalf_apply c _ _ _ _ _).trans ?_
    refine Finset.sum_congr rfl fun j _ => Finset.sum_congr rfl fun k _ => ?_
    rw [xAt_apply (off3 c) _ _ _ _ t hs, wAt_apply (off4 c) _ _ _ _ t hs, wv_apply h, h.tokens, h.experts]
  · rename_i hc
    have hs : t.val = sd 0 c + t.val % 512 := by rw [sd_zero]; omega
    refine (sendHalf_apply c _ _ _ _ _).trans ?_
    refine Finset.sum_congr rfl fun j _ => Finset.sum_congr rfl fun k _ => ?_
    rw [xAt_apply (off1 c) _ _ _ _ t hs, wAt_apply (off2 c) _ _ _ _ t hs, wv_apply h, h.tokens, h.experts]

/-! ## The butterfly -/

/-- The devices whose partial products device `c` has met after `k` steps, in the order it adds them. -/
def met : ℕ → Dev nD → List (Dev nD)
  | 0, c => [c]
  | k + 1, c => met k c ++ met k (prt ⟨k % 10, Nat.mod_lt _ (by decide)⟩ c)

/-- A partial sum is the sum over the devices met. -/
theorem psum_met (i : S1024x512.Idx) : ∀ (k : ℕ) (c : Dev nD), (psum m k c i : EReal) = ((met k c).map fun d => (part m d i : EReal)).sum
  | 0, c => by simp [psum, met]
  | k + 1, c => by
    rw [met, List.map_append, List.sum_append, ← psum_met i k, ← psum_met i k]
    rfl

/-- After five steps every device has met every device once. -/
theorem met_all (c : Dev nD) : (met 5 c).Perm (List.finRange 32) := by revert c; decide +kernel

/-- THE BUTTERFLY adds up all the partial products. -/
theorem psum_all (c : Dev nD) (i : S1024x512.Idx) : (psum m 5 c i : EReal) = ∑ d : Fin 32, (part m d i : EReal) := by
  rw [psum_met, Fin.sum_univ_def]
  exact ((met_all c).map _).sum_eq

/-- The experts, device by device, are all the experts. -/
theorem sum_experts (g : Fin 128 → EReal) : ∑ d : Fin 32, ∑ j : Fin 4, g (expert d j) = ∑ e : Fin 128, g e := by
  rw [← Fintype.sum_prod_type' (f := fun (d : Fin 32) (j : Fin 4) => g (expert d j))]
  refine Fintype.sum_equiv (finProdFinEquiv (m := 32) (n := 4)) _ _ fun x => congrArg g (Fin.ext ?_)
  show 4 * x.1.val + x.2.val = x.2.val + 4 * x.1.val
  omega

/-- THE KERNEL'S RESULT at a token and an output column. -/
theorem outV_apply (h : Holds m X R I W) (t : Fin 1024) (o : Fin 512) : outV m (ix2 t o) = Model.answer X R I W t o := by
  have : outV m (ix2 t o) = (psum m 5 (owner (row (ix2 t o))) (ix2 t o) : EReal) := by
    pointwise [outV, k0_pay2, fin]
  rw [this, psum_all]
  simp only [part_apply h]
  exact sum_experts fun e => Model.share X R I W t e o

end Cert.KernelValue

end
-- ==== Proof.Value.lean ====
/-
  What the run leaves in the result's array, and the staged arguments as the arguments themselves.
-/
module

public import proofs.«01_k».proof.Proof.Launch
public import proofs.«01_k».proof.Proof.Total
public import Idealize.ShloMosaic.Lib.Pipeline.ValueKit.Geometry
public import Idealize.ShloMosaic.Lib.Layout

@[expose] public section

noncomputable section

namespace Cert.KernelValue

open Idealize.ShloMosaic Cert.KernelIdeal Cert.KernelIdeal.Gen Cert.KernelIdeal.Run
open Idealize.ShloMosaic.TcCoe

variable {F : FTy → Type} [FloatOps F] (m : (ℓ : Loc nD τ sig) → Buf (Elt F) ℓ) (ρ : Dev nD → PrngReg)

/-- Every window's block starts at the array's first element. -/
theorem index_zero : ∀ a : Fin 2, win0_0.index (0 : Fin 1) a = 0 ∧ win0_1.index (0 : Fin 1) a = 0 ∧ win0_2.index (0 : Fin 1) a = 0 ∧ win0_4.index (0 : Fin 1) a = 0 := by decide +kernel
theorem index_zero3 : ∀ a : Fin 3, win0_3.index (0 : Fin 1) a = 0 := by decide +kernel

/-- The result's window is written back once, whole. -/
theorem whole_out : win0_4.WholeAt (0 : Fin 1) :=
  ⟨flush0_4 (0 : Fin 1), fun t _ => Subsingleton.elim (α := Fin 1) t 0, fun a => ⟨(index_zero a).2.2.2, by revert a; decide +kernel⟩⟩

/-- The result's array ends holding the computed result, on every device. -/
theorem finalA_out (c : Dev nD) : finalA m ρ c 4 = outV m :=
  (dats m ρ 0 c).arrAt_eq_of_after_last 4 (0 : Fin 1) whole_out _ fun j => rfl

/-- The block a window stages is the argument. -/
theorem inX_eq (c : Dev nD) : inX m c = m ((c.tc : Thread nD τ).loc main_arg0) :=
  funext fun i => congrArg (m _) (funext fun a => Fin.ext (by
    refine (idx_val' _ _ _ _ a).trans ?_
    have := index_zero a
    fin_cases a <;> simp_all))
theorem inR_eq (c : Dev nD) : inR m c = m ((c.tc : Thread nD τ).loc main_arg1) :=
  funext fun i => congrArg (m _) (funext fun a => Fin.ext (by
    refine (idx_val' _ _ _ _ a).trans ?_
    have := index_zero a
    fin_cases a <;> simp_all))
theorem inI_eq (c : Dev nD) : inI m c = m ((c.tc : Thread nD τ).loc main_arg2) :=
  funext fun i => congrArg (m _) (funext fun a => Fin.ext (by
    refine (idx_val' _ _ _ _ a).trans ?_
    have := index_zero a
    fin_cases a <;> simp_all))
theorem inE_eq (c : Dev nD) : inE m c = m ((c.tc : Thread nD τ).loc main_arg3) :=
  funext fun i => congrArg (m _) (funext fun a => Fin.ext (by
    refine (idx_val' _ _ _ _ a).trans ?_
    have := index_zero3 a
    fin_cases a <;> simp_all))

/-- Block `c` of the experts, at a place of it. -/
theorem block_apply (c : Dev nD) (W : (⟨3, ![128, 256, 512]⟩ : Shape).Idx → EReal) (h) (j : Fin 4) (k : Fin 256) (o : Fin 512) :
    Layout.block ⟨3, ![4, 256, 512]⟩ ⟨3, ![128, 256, 512]⟩ 0 32 c W h (ix3 j k o) = W (ix3 (expert c j) k o) := by
  refine congrArg W (funext fun a => Fin.ext ((Layout.Tiles.idx_val h c _ a).trans ?_))
  fin_cases a
  · show c.val * 4 + j.val = 4 * c.val + j.val
    omega
  · rfl
  · rfl

end Cert.KernelValue

end
-- ==== Proof.RefValue.lean ====
/-
  The reference's value read at a token and an output column: its gathers pick the softmax entries and
  the weights of the two routed experts, and its result there is the weighted sum of their outputs.
-/
module

public import proofs.«01_k».proof.Proof.Model
public import proofs.«01_k».proof.Proof.Gen.ReferenceIdeal.Run
public import Idealize.ShloMosaic.Lib.Pointwise
public import Idealize.ShloMosaic.Lib.Tactic.CleanTypes
public import Idealize.ShloMosaic.Lib.StableHlo.Predicate
public import Idealize.ShloMosaic.Lib.Affine

@[expose] public section

noncomputable section

namespace Cert.RefValue

open Idealize.ShloMosaic Cert.ReferenceIdeal Cert.ReferenceIdeal.Gen
set_option maxRecDepth 16384

/-- The softmax entry a pair of index words names. -/
theorem gather_pair {α : Type} (x : S1024x128.Idx → α) (idx : IVec S1024x2 32) (t : Fin 1024) (e : Fin 128)
    (h0 : idx (ix2 t 0) = BitVec.ofNat 32 t.val) (h1 : idx (ix2 t 1) = BitVec.ofNat 32 e.val) :
    Host.gather gather_S1024x128_S1024x2_S1024_n_01_n_n_01_1_11 x idx (ix1 t) = x (ix2 t e) := by
  set d := gather_S1024x128_S1024x2_S1024_n_01_n_n_01_1_11
  unfold Host.gather
  refine congrArg x (funext fun a => Fin.ext ?_)
  have ht := t.isLt
  have he := e.isLt
  match a with
  | ⟨0, _⟩ =>
    have hm : (0 : Fin 2) ∈ d.startIndexMap := by decide
    have hs : d.siIdx (ix1 t) ⟨d.startIndexMap.idxOf 0, List.idxOf_lt_length_iff.2 hm⟩ = ix2 t 0 := by
      funext b; match b with | ⟨0, _⟩ => rfl | ⟨1, _⟩ => rfl
    show d.start (ix1 t) idx 0 + d.batchCoord (ix1 t) 0 + d.offCoord (ix1 t) 0 = t.val
    rw [d.batchCoord_eq_zero _ _ (by decide), d.offCoord_eq_zero _ _ (by decide), GatherDims.start, dif_pos hm, hs, h0, StableHlo.Predicate.toInt_ofNat_small _ (by omega)]
    show min ((t.val : Int)).toNat (1024 - 1) = t.val
    omega
  | ⟨1, _⟩ =>
    have hm : (1 : Fin 2) ∈ d.startIndexMap := by decide
    have hs : d.siIdx (ix1 t) ⟨d.startIndexMap.idxOf 1, List.idxOf_lt_length_iff.2 hm⟩ = ix2 t 1 := by
      funext b; match b with | ⟨0, _⟩ => rfl | ⟨1, _⟩ => rfl
    show d.start (ix1 t) idx 1 + d.batchCoord (ix1 t) 1 + d.offCoord (ix1 t) 1 = e.val
    rw [d.batchCoord_eq_zero _ _ (by decide), d.offCoord_eq_zero _ _ (by decide), GatherDims.start, dif_pos hm, hs, h1, StableHlo.Predicate.toInt_ofNat_small _ (by omega)]
    show min ((e.val : Int)).toNat (128 - 1) = e.val
    omega

/-- The expert's weights an index word names. -/
theorem gather_expert {α : Type} (x : S128x256x512.Idx → α) (idx : IVec S1024x1 32) (t : Fin 1024) (k : Fin 256) (o : Fin 512) (e : Fin 128)
    (h0 : idx (ix2 t 0) = BitVec.ofNat 32 e.val) :
    Host.gather gather_S128x256x512_S1024x1_S1024x256x512_12_0_n_n_0_1_1256512 x idx (ix3 t k o) = x (ix3 e k o) := by
  set d := gather_S128x256x512_S1024x1_S1024x256x512_12_0_n_n_0_1_1256512
  unfold Host.gather
  refine congrArg x (funext fun a => Fin.ext ?_)
  have he := e.isLt
  match a with
  | ⟨0, _⟩ =>
    have hm : (0 : Fin 3) ∈ d.startIndexMap := by decide
    have hs : d.siIdx (ix3 t k o) ⟨d.startIndexMap.idxOf 0, List.idxOf_lt_length_iff.2 hm⟩ = ix2 t 0 := by
      funext b; match b with | ⟨0, _⟩ => rfl | ⟨1, _⟩ => rfl
    show d.start (ix3 t k o) idx 0 + d.batchCoord (ix3 t k o) 0 + d.offCoord (ix3 t k o) 0 = e.val
    rw [d.batchCoord_eq_zero _ _ (by decide), d.offCoord_eq_zero _ _ (by decide), GatherDims.start, dif_pos hm, hs, h0, StableHlo.Predicate.toInt_ofNat_small _ (by omega)]
    show min ((e.val : Int)).toNat (128 - 1) = e.val
    omega
  | ⟨1, _⟩ =>
    show d.start (ix3 t k o) idx 1 + d.batchCoord (ix3 t k o) 1 + d.offCoord (ix3 t k o) 1 = k.val
    rw [d.batchCoord_eq_zero _ _ (by decide), GatherDims.start, dif_neg (by decide), GatherDims.offCoord, dif_pos (by decide), Nat.add_zero, Nat.zero_add]
    rfl
  | ⟨2, _⟩ =>
    show d.start (ix3 t k o) idx 2 + d.batchCoord (ix3 t k o) 2 + d.offCoord (ix3 t k o) 2 = o.val
    rw [d.batchCoord_eq_zero _ _ (by decide), GatherDims.start, dif_neg (by decide), GatherDims.offCoord, dif_pos (by decide), Nat.add_zero, Nat.zero_add]
    rfl

/-! ## The composed term, its parts named -/

/-- The scores. -/
def scores (x : FVec Ideal S1024x256 .bf16) (r : FVec Ideal S256x128 .bf16) : FVec Ideal S1024x128 .f32 :=
  Host.dotGeneral dot_S1024x256_S256x128_S1024x128_1_0_0_1_n_n none (extf .f32 x bitsLt_bf16_f32 : FVec Ideal S1024x256 .f32) (extf .f32 r bitsLt_bf16_f32 : FVec Ideal S256x128 .f32)
/-- The exponentials of the scores less each row's greatest. -/
def masses (s : FVec Ideal S1024x128 .f32) : FVec Ideal S1024x128 .f32 :=
  Host.exp (subf s (broadcastInDim S1024x128 ![0, 1] bcast_S1024x1_S1024x128_0_1 (broadcastInDim S1024x1 ![0] bcast_S1024_S1024x1_0
    (Host.reduce FloatOps.maximumf s (constant S_ .f32 0xFF800000#32) reducesTo_S1024x128_S1024_d1 h_S_))))
/-- Each row divided by its sum. -/
def normed (s : FVec Ideal S1024x128 .f32) : FVec Ideal S1024x128 .f32 :=
  Host.divf s (broadcastInDim S1024x128 ![0, 1] bcast_S1024x1_S1024x128_0_1 (broadcastInDim S1024x1 ![0] bcast_S1024_S1024x1_0
    (Host.reduceAdd s (constant S_ .f32 0x00000000#32) reducesTo_S1024x128_S1024_d1 h_S_)))
/-- Index words, the negative ones moved up by `n`, as a column. -/
def wrapped (w : IVec S1024 32) (n : BitVec 32) : IVec S1024x1 32 :=
  broadcastInDim S1024x1 ![0] bcast_S1024_S1024x1_0
    (select (cmpi .slt w (broadcastInDim S1024 ![] bcast_S_S1024 (constantI S_ 32 0#32))) (addi w (broadcastInDim S1024 ![] bcast_S_S1024 (constantI S_ 32 n))) w)
/-- The first routed experts … -/
def first (i : IVec S1024x2 32) : IVec S1024 32 := shapeCast S1024 (extractStridedSlice S1024x1 ![0, 0] i slices_S1024x2_S1024x1_0_0) shapeCasts_S1024x1_S1024
/-- … and the second. -/
def second (i : IVec S1024x2 32) : IVec S1024 32 := shapeCast S1024 (extractStridedSlice S1024x1 ![0, 1] i slices_S1024x2_S1024x1_0_1) shapeCasts_S1024x1_S1024
/-- The pairs of a row and an expert. -/
def places (w : IVec S1024 32) : IVec S1024x2 32 :=
  concatenate S1024x2 1 [⟨S1024x1, wrapped (iotaInDim S1024 32 0) 1024#32⟩, ⟨S1024x1, wrapped w 128#32⟩] concatenates_S1024x1_S1024x1_S1024x2_d1
/-- The softmax at the routed experts `w`. -/
def picks (p : FVec Ideal S1024x128 .f32) (w : IVec S1024 32) : FVec Ideal S1024 .f32 :=
  Host.gather gather_S1024x128_S1024x2_S1024_n_01_n_n_01_1_11 p (places w)
/-- The routed experts' outputs. -/
def outs (x : FVec Ideal S1024x256 .bf16) (e : FVec Ideal S128x256x512 .bf16) (w : IVec S1024 32) : FVec Ideal S1024x512 .f32 :=
  Host.dotGeneral dot_S1024x256_S1024x256x512_S1024x512_1_1_n_2_0_0 none (extf .f32 x bitsLt_bf16_f32 : FVec Ideal S1024x256 .f32)
    (Host.gather gather_S128x256x512_S1024x1_S1024x256x512_12_0_n_n_0_1_1256512 (extf .f32 e bitsLt_bf16_f32 : FVec Ideal S128x256x512 .f32) (wrapped w 128#32))
/-- Outputs weighted by `g`. -/
def weighed (g : FVec Ideal S1024 .f32) (y : FVec Ideal S1024x512 .f32) : FVec Ideal S1024x512 .f32 :=
  mulf (broadcastInDim S1024x512 ![0, 1] bcast_S1024x1_S1024x512_0_1 (broadcastInDim S1024x1 ![0] bcast_S1024_S1024x1_0 g)) y
/-- The reference's result. -/
def result (x : FVec Ideal S1024x256 .bf16) (r : FVec Ideal S256x128 .bf16) (i : IVec S1024x2 32) (e : FVec Ideal S128x256x512 .bf16) : FVec Ideal S1024x512 .f32 :=
  addf (weighed (Host.divf (picks (normed (masses (scores x r))) (first i)) (addf (picks (normed (masses (scores x r))) (first i)) (picks (normed (masses (scores x r))) (second i)))) (outs x e (first i)))
    (weighed (Host.divf (picks (normed (masses (scores x r))) (second i)) (addf (picks (normed (masses (scores x r))) (first i)) (picks (normed (masses (scores x r))) (second i)))) (outs x e (second i)))

/-- The run's term is that. -/
theorem res_eq (m : (ℓ : Loc nD τ sig) → Buf (Elt Ideal) ℓ) (c : Dev nD) :
    Value.res_main_v71 m c = result (m ((c.tc : Thread nD τ).loc main_arg0)) (m ((c.tc : Thread nD τ).loc main_arg1)) (m ((c.tc : Thread nD τ).loc main_arg2)) (m ((c.tc : Thread nD τ).loc main_arg3)) := by
  unfold Value.res_main_v71; rfl

/-! ## The parts at an index -/

/-- The softmax. -/
theorem normed_apply (x : FVec Ideal S1024x256 .bf16) (r : FVec Ideal S256x128 .bf16) (t : Fin 1024) (e : Fin 128) :
    normed (masses (scores x r)) (ix2 t e) = Model.prob (fun t k => x (ix2 t k)) (fun k e => r (ix2 k e)) t e := by
  pointwise [normed, masses, scores, Model.ofBits_bot]
  rfl

/-- An index word that is not negative stays. -/
theorem wrapped_apply (w : IVec S1024 32) (n : BitVec 32) (t : Fin 1024) (a : ℕ) (h : w (ix1 t) = BitVec.ofNat 32 a) (ha : a < 2 ^ 31) (u : Fin 1) :
    wrapped w n (ix2 t u) = BitVec.ofNat 32 a := by
  pointwise [wrapped]
  rw [h]
  have hn : ¬ IntOp.cmpi .slt (BitVec.ofNat 32 a) 0#32 = 1#1 := fun hc => by
    have := IntOp.cmpi_slt.1 hc
    rw [StableHlo.Predicate.toInt_ofNat_small a ha] at this
    simp at this
    omega
  exact if_neg hn

/-- The first expert's word. -/
theorem first_apply (i : IVec S1024x2 32) (t : Fin 1024) : first i (ix1 t) = i (ix2 t 0) := by pointwise [first]
/-- The second expert's word. -/
theorem second_apply (i : IVec S1024x2 32) (t : Fin 1024) : second i (ix1 t) = i (ix2 t 1) := by pointwise [second]

/-- A pair's two words. -/
theorem places_apply (w : IVec S1024 32) (t : Fin 1024) :
   places w (ix2 t 0) = wrapped (iotaInDim S1024 32 0) 1024#32 (ix2 t 0) ∧ places w (ix2 t 1) = wrapped w 128#32 (ix2 t 0) := by
  constructor <;> pointwise [places]

/-- A pick is the softmax at the routed expert. -/
theorem picks_apply (p : FVec Ideal S1024x128 .f32) (w : IVec S1024 32) (t : Fin 1024) (e : Fin 128) (h : w (ix1 t) = BitVec.ofNat 32 e.val) : picks p w (ix1 t) = p (ix2 t e) :=
  gather_pair p _ t e ((places_apply w t).1.trans (wrapped_apply _ _ t t.val rfl (by omega) 0)) ((places_apply w t).2.trans (wrapped_apply _ _ t e.val h (by omega) 0))

/-- An output is the routed expert's. -/
theorem outs_apply (x : FVec Ideal S1024x256 .bf16) (f : FVec Ideal S128x256x512 .bf16) (w : IVec S1024 32) (t : Fin 1024) (o : Fin 512) (e : Fin 128) (h : w (ix1 t) = BitVec.ofNat 32 e.val) :
    outs x f w (ix2 t o) = Model.yield (fun t k => x (ix2 t k)) (fun e k o => f (ix3 e k o)) t e o := by
  pointwise [outs]
  refine Finset.sum_congr rfl fun k _ => ?_
  rw [gather_expert _ _ t k o e (wrapped_apply _ _ t e.val h (by omega) 0)]
  rfl

/-- THE REFERENCE AT AN INDEX: the weighted sum of the two routed experts' outputs. -/
theorem result_apply (x : FVec Ideal S1024x256 .bf16) (r : FVec Ideal S256x128 .bf16) (i : IVec S1024x2 32) (f : FVec Ideal S128x256x512 .bf16) (I : Fin 1024 → Fin 2 → Fin 128)
    (hI : ∀ t j, i (ix2 t j) = BitVec.ofNat 32 (I t j).val) (t : Fin 1024) (o : Fin 512) :
    result x r i f (ix2 t o) = Model.wanted (fun t k => x (ix2 t k)) (fun k e => r (ix2 k e)) I (fun e k o => f (ix3 e k o)) t o := by
  have h0 : first i (ix1 t) = BitVec.ofNat 32 (I t 0).val := (first_apply i t).trans (hI t 0)
  have h1 : second i (ix1 t) = BitVec.ofNat 32 (I t 1).val := (second_apply i t).trans (hI t 1)
  pointwise [result, weighed]
  rw [picks_apply _ _ t _ h0, picks_apply _ _ t _ h1, outs_apply x f _ t o _ h0, outs_apply x f _ t o _ h1, normed_apply, normed_apply]
  rfl

end Cert.RefValue
-- ==== Proof.Pre.lean ====
/-
  What the precondition says: the tokens and the router's weights are real numbers, and every routed
  expert is one of the 128.
-/
module

public import proofs.«01_k».proof.Pre_finite_and_in_range_KernelIdeal
public import proofs.«01_k».proof.Pre_finite_and_in_range_ReferenceIdeal
public import proofs.«01_k».proof.Proof.Model
public import Idealize.ShloMosaic.Lib.Pointwise
public import Idealize.ShloMosaic.Lib.ReduceAll
public import Idealize.ShloMosaic.Lib.Affine

@[expose] public section

set_option maxRecDepth 16384

noncomputable section

namespace Cert.PreValue

open Idealize.ShloMosaic Cert.Pre_finite_and_in_range_KernelIdeal

theorem facts : Facts := by
  constructor <;> decide

theorem factsR : Cert.Pre_finite_and_in_range_ReferenceIdeal.Facts := by
  constructor <;> decide

/-- Both of two bits are set exactly when their conjunction is. -/
theorem and_one {a b : BitVec 1} : IntOp.andi a b = 1#1 → a = 1#1 ∧ b = 1#1 := by revert a b; decide

/-- A boolean written as a set bit is true. -/
theorem bit_true {b : Bool} : BitVec.ofBool b = 1#1 → b = true := by revert b; decide

/-- A float below plus infinity in absolute value is a real number. -/
theorem real_of_abs {x : EReal} (h : max x (-x) < ⊤) : ∃ a : ℝ, x = a := by
  induction x with
  | bot => simp at h
  | top => simp at h
  | coe a => exact ⟨a, rfl⟩

/-- A word at least 0 and below 128 as a signed number is an expert's. -/
theorem expert_of {x : BitVec 32} (h0 : IntOp.cmpi .sge x 0#32 = 1#1) (h1 : IntOp.cmpi .slt x 128#32 = 1#1) : ∃ e : Fin 128, x = BitVec.ofNat 32 e.val := by
  rw [IntOp.cmpi_sge] at h0
  rw [IntOp.cmpi_slt] at h1
  have e0 : (0#32 : BitVec 32).toInt = 0 := rfl
  have e1 : (128#32 : BitVec 32).toInt = 128 := rfl
  rw [e0] at h0
  rw [e1] at h1
  have hx := BitVec.toInt_eq_toNat_cond x
  have hl := x.isLt
  have hn : x.toNat < 128 := by split at hx <;> omega
  exact ⟨⟨x.toNat, hn⟩, by simp⟩

variable [Facts]

/-- THE PRECONDITION, read. -/
theorem holds (x : FVec Ideal S1024x256 .bf16) (r : FVec Ideal S256x128 .bf16) (i : IVec S1024x2 32) (e : FVec Ideal S4x256x512 .bf16)
    (h : fn x r i e = fun _ => 1#1) :
    (∀ t k, ∃ a : ℝ, x (ix2 t k) = a) ∧ (∀ k e, ∃ a : ℝ, r (ix2 k e) = a) ∧ ∃ I : Fin 1024 → Fin 2 → Fin 128, ∀ t j, i (ix2 t j) = BitVec.ofNat 32 (I t j).val := by
  have hs : Subsingleton S_.Idx := ⟨fun a b => funext fun k => k.elim0⟩
  have h0 : fn x r i e (fun k => k.elim0) = 1#1 := by rw [h]
  unfold fn fn_part1 at h0
  obtain ⟨h0, hi⟩ := and_one h0
  obtain ⟨hx, hr⟩ := and_one h0
  have hx := Host.reduce_andi_all _ _ _ _ _ hx
  have hr := Host.reduce_andi_all _ _ _ _ _ hr
  have hi := Host.reduce_andi_all _ _ _ _ _ hi
  refine ⟨fun t k => ?_, fun k e => ?_, ?_⟩
  · have := hx (ix2 t k)
    pointwise [Model.ofBits_top] at this
    exact real_of_abs (of_decide_eq_true (bit_true this))
  · have := hr (ix2 k e)
    pointwise [Model.ofBits_top] at this
    exact real_of_abs (of_decide_eq_true (bit_true this))
  · have : ∀ t j, ∃ e : Fin 128, i (ix2 t j) = BitVec.ofNat 32 e.val := fun t j => by
      obtain ⟨h0, h1⟩ := and_one (hi (ix2 t j))
      exact expert_of h0 h1
    choose I hI using this
    exact ⟨I, hI⟩

end Cert.PreValue

end
-- ==== Proof.Algebra.lean ====
/-
  The kernel, read at the ideal instance, ends holding on every device what the reference ends holding.
-/
module

public import proofs.«01_k».proof.Defs
public import proofs.«01_k».proof.Proof.Frames
public import proofs.«01_k».proof.Proof.Value
public import proofs.«01_k».proof.Proof.RefValue
public import proofs.«01_k».proof.Proof.Pre

@[expose] public section

noncomputable section

namespace Cert.Algebra

open Idealize.ShloMosaic Idealize.SL.Sem
open Cert.KernelIdeal.Run (QC run_main outV)

section
open Cert.KernelIdeal Cert.KernelValue

/-- The staged arguments as tables, from the arguments themselves. -/
theorem holds {m : (ℓ : Loc nD τ sig) → Buf (Elt Ideal) ℓ} {x : FVec Ideal S1024x256 .bf16} {r : FVec Ideal S256x128 .bf16} {i : IVec S1024x2 32}
    {f : (⟨3, ![128, 256, 512]⟩ : Shape).Idx → EReal} {I : Fin 1024 → Fin 2 → Fin 128} (hI : ∀ t j, i (ix2 t j) = BitVec.ofNat 32 (I t j).val)
    (h0 : ∀ c : Dev nD, m ((c.tc : Thread nD τ).loc main_arg0) = x) (h1 : ∀ c : Dev nD, m ((c.tc : Thread nD τ).loc main_arg1) = r)
    (h2 : ∀ c : Dev nD, m ((c.tc : Thread nD τ).loc main_arg2) = i)
    (h3 : ∀ c : Dev nD, m ((c.tc : Thread nD τ).loc main_arg3) = Layout.block ⟨3, ![4, 256, 512]⟩ ⟨3, ![128, 256, 512]⟩ 0 32 c f) :
    Holds m (fun t k => x (ix2 t k)) (fun k e => r (ix2 k e)) I (fun e k o => f (ix3 e k o)) where
  tokens c t k := congrFun ((inX_eq m c).trans (h0 c)) _
  router c k e := congrFun ((inR_eq m c).trans (h1 c)) _
  routing c t j := (congrFun ((inI_eq m c).trans (h2 c)) _).trans (hI t j)
  experts c j k o := (congrFun ((inE_eq m c).trans (h3 c)) _).trans (block_apply c f _ j k o)

end

/-- A place in the result, by its coordinates. -/
theorem place (i : (⟨2, ![1024, 512]⟩ : Shape).Idx) : i = ix2 (i 0) (i 1) :=
  funext fun a => match a with
  | ⟨0, _⟩ => rfl
  | ⟨1, _⟩ => rfl

/-- THE VALUE CLAIM. -/
theorem algebraic : Cert.algebraic_KernelIdeal_ReferenceIdeal_pre_finite_and_in_range_KernelIdeal (hPre_finite_and_in_range_KernelIdeal := PreValue.facts) := by
  letI := PreValue.facts
  intro m ρ m' ρ' hpre hargs
  obtain ⟨hx, hr, I, hI⟩ := PreValue.holds _ _ _ _ (hpre 0)
  rw [(hargs 0).1] at hx
  rw [(hargs 0).2.1] at hr
  rw [(hargs 0).2.2.1] at hI
  have hh := holds hI (fun c => (hargs c).1) (fun c => (hargs c).2.1) (fun c => (hargs c).2.2.1) (fun c => (hargs c).2.2.2)
  refine ⟨outV m, (θ_run Cert.KernelIdeal.defs _ _).mono (fun r h c => ⟨(h.1 c 4).trans (KernelValue.finalA_out m ρ c), Frames.args_kept h.1 c⟩) (run_main (F := Ideal) m ρ),
    (θ_run Cert.ReferenceIdeal.defs _ _).mono (fun r h => ⟨((h 0).1.trans (RefValue.res_eq m' 0)).trans ?_, (h 0).2⟩) (Cert.ReferenceIdeal.Value.run (F := Ideal) m' ρ')⟩
  funext i
  rw [place i]
  refine (RefValue.result_apply _ _ _ _ I hI _ _).trans ?_
  exact ((KernelValue.outV_apply hh _ _).trans (Model.answer_eq_wanted _ _ hx hr _ _)).symm

end Cert.Algebra

end
-- ==== Proof.lean ====
/-
  The proof of `Cert.Claim`: the frames are `Proof/Frames.lean`'s, the value claim is `Proof/Algebra.lean`'s;
  the two printed programs are one text, so `preserves` is trivial.
-/
module

public import proofs.«01_k».proof.Defs
public import proofs.«01_k».proof.Proof.Frames
public import proofs.«01_k».proof.Proof.Algebra

@[expose] public section

noncomputable section

namespace Cert.Proof

open Cert.Frames

theorem claim : Cert.Claim := ⟨Cert.Kernel.Gen.facts, Cert.KernelIdeal.Gen.facts, Cert.ReferenceIdeal.Gen.facts,
  Cert.PreValue.facts, Cert.PreValue.factsR, frame_kernel, frame_ideal, fun m ρ _ => frame_ideal m ρ trivial,
  frame_reference, fun m ρ _ => frame_reference m ρ trivial, trivial, Cert.Algebra.algebraic⟩

end Cert.Proof

end
